-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 2, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 256, 1024]⟩ ⟨3, ![4, 512, 1024]⟩ (Layout.meshBlock [2, 2, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x512x512 : Shape := ⟨3, ![4, 512, 512]⟩
abbrev S4x256x1024 : Shape := ⟨3, ![4, 256, 1024]⟩
abbrev S4x64x1024 : Shape := ⟨3, ![4, 64, 1024]⟩
abbrev S4 : Shape := ⟨1, ![4]⟩
abbrev S_ : Shape := ⟨0, ![]⟩
abbrev S1x64x512 : Shape := ⟨3, ![1, 64, 512]⟩
abbrev S64x512 : Shape := ⟨2, ![64, 512]⟩
abbrev S64x1024 : Shape := ⟨2, ![64, 1024]⟩
abbrev S1x64x1024 : Shape := ⟨3, ![1, 64, 1024]⟩
abbrev S1 : Shape := ⟨1, ![1]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x512x8x64, .f32⟩
  | .hbm, ⟨1, _⟩ => ⟨S512x1024, .f32⟩
  | .hbm, ⟨2, _⟩ => ⟨S4x512x512, .f32⟩
  | .hbm, ⟨3, _⟩ => ⟨S4x256x1024, .f32⟩
  | .local _ .vmem, ⟨0, _⟩ => ⟨S4x512x512, .f32⟩
  | .local _ .vmem, ⟨1, _⟩ => ⟨S512x1024, .f32⟩
  | .local _ .vmem, ⟨2, _⟩ => ⟨S4x256x1024, .f32⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | _, _ => ⟨S4x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_16 : BitVec 32 := 8#32
  let v28 : BitVec 32 := Scalar.muli v10 c8_i32_16
  let v29 : BitVec 32 := Scalar.addi c0_i32 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v30 : BitVec 32 := Scalar.muli v5 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_dev2 (d0 : Dev nD) : Nat :=
  let c0_i32_21 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_20 : BitVec 32 := 8#32
  let v34 : BitVec 32 := Scalar.muli v2 c8_i32_20
  let v35 : BitVec 32 := Scalar.addi c0_i32_21 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v36 : BitVec 32 := Scalar.muli v5 c4_i32_22
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_23 : BitVec 32 := 1#32
  let v38 : BitVec 32 := Scalar.muli v13 c1_i32_23
  let v39 : BitVec 32 := Scalar.addi v37 v38
  v39.toNat
def k0_dev3 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v40 : BitVec 32 := Scalar.muli v2 c8_i32_25
  let v41 : BitVec 32 := Scalar.addi c0_i32_26 v40
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_27 : BitVec 32 := 4#32
  let v42 : BitVec 32 := Scalar.muli v14 c4_i32_27
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v44 : BitVec 32 := Scalar.muli v8 c1_i32_28
  let v45 : BitVec 32 := Scalar.addi v43 v44
  v45.toNat
def k0_off1 (d0 : Dev nD) : Fin 3 → Nat :=
  let c0 : Index := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_29 v2
  let c256_i32 : BitVec 32 := 256#32
  let v47 : BitVec 32 := Scalar.muli v46 c256_i32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32 : BitVec 32 := 64#32
  let v49 : BitVec 32 := Scalar.muli v16 c64_i32
  let v50 : BitVec 32 := Scalar.addi v47 v49
  let v51 : Index := Scalar.indexCast v50
  let c0_31 : Index := 0#32
  ![0, v51.toNat, 0]
def k0_dev4 (d0 : Dev nD) : Nat :=
  let c0_i32_42 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_41 : BitVec 32 := 8#32
  let v61 : BitVec 32 := Scalar.muli v10 c8_i32_41
  let v62 : BitVec 32 := Scalar.addi c0_i32_42 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v63 : BitVec 32 := Scalar.muli v5 c4_i32_43
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v65 : BitVec 32 := Scalar.muli v8 c1_i32_44
  let v66 : BitVec 32 := Scalar.addi v64 v65
  v66.toNat
def k0_off2 (d0 : Dev nD) : Fin 3 → Nat :=
  let c1 : Index := 1#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_29 v2
  let c256_i32 : BitVec 32 := 256#32
  let v47 : BitVec 32 := Scalar.muli v46 c256_i32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_49 : BitVec 32 := 64#32
  let v75 : BitVec 32 := Scalar.muli v16 c64_i32_49
  let v76 : BitVec 32 := Scalar.addi v47 v75
  let v77 : Index := Scalar.indexCast v76
  let c0_50 : Index := 0#32
  ![1, v77.toNat, 0]
def k0_dev5 (d0 : Dev nD) : Nat :=
  let c0_i32_62 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_61 : BitVec 32 := 8#32
  let v87 : BitVec 32 := Scalar.muli v10 c8_i32_61
  let v88 : BitVec 32 := Scalar.addi c0_i32_62 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v89 : BitVec 32 := Scalar.muli v5 c4_i32_63
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v91 : BitVec 32 := Scalar.muli v8 c1_i32_64
  let v92 : BitVec 32 := Scalar.addi v90 v91
  v92.toNat
def k0_off3 (d0 : Dev nD) : Fin 3 → Nat :=
  let c2 : Index := 2#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_29 v2
  let c256_i32 : BitVec 32 := 256#32
  let v47 : BitVec 32 := Scalar.muli v46 c256_i32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_69 : BitVec 32 := 64#32
  let v101 : BitVec 32 := Scalar.muli v16 c64_i32_69
  let v102 : BitVec 32 := Scalar.addi v47 v101
  let v103 : Index := Scalar.indexCast v102
  let c0_70 : Index := 0#32
  ![2, v103.toNat, 0]
def k0_dev6 (d0 : Dev nD) : Nat :=
  let c0_i32_82 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_81 : BitVec 32 := 8#32
  let v113 : BitVec 32 := Scalar.muli v10 c8_i32_81
  let v114 : BitVec 32 := Scalar.addi c0_i32_82 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v115 : BitVec 32 := Scalar.muli v5 c4_i32_83
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v117 : BitVec 32 := Scalar.muli v8 c1_i32_84
  let v118 : BitVec 32 := Scalar.addi v116 v117
  v118.toNat
def k0_off4 (d0 : Dev nD) : Fin 3 → Nat :=
  let c3 : Index := 3#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_29 v2
  let c256_i32 : BitVec 32 := 256#32
  let v47 : BitVec 32 := Scalar.muli v46 c256_i32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_89 : BitVec 32 := 64#32
  let v127 : BitVec 32 := Scalar.muli v16 c64_i32_89
  let v128 : BitVec 32 := Scalar.addi v47 v127
  let v129 : Index := Scalar.indexCast v128
  let c0_90 : Index := 0#32
  ![3, v129.toNat, 0]
def k0_dev7 (d0 : Dev nD) : Nat :=
  let c0_i32_102 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_101 : BitVec 32 := 8#32
  let v139 : BitVec 32 := Scalar.muli v10 c8_i32_101
  let v140 : BitVec 32 := Scalar.addi c0_i32_102 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v141 : BitVec 32 := Scalar.muli v5 c4_i32_103
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v143 : BitVec 32 := Scalar.muli v8 c1_i32_104
  let v144 : BitVec 32 := Scalar.addi v142 v143
  v144.toNat
def k0_off5 (d0 : Dev nD) : Fin 3 → Nat :=
  let c0_109 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_30 : BitVec 32 := 256#32
  let v48 : BitVec 32 := Scalar.muli v2 c256_i32_30
  let v153 : Index := Scalar.indexCast v48
  let c0_110 : Index := 0#32
  ![0, v153.toNat, 0]
def k0_off6 (d0 : Dev nD) : Fin 3 → Nat :=
  let c1_117 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_30 : BitVec 32 := 256#32
  let v48 : BitVec 32 := Scalar.muli v2 c256_i32_30
  let v162 : Index := Scalar.indexCast v48
  let c0_118 : Index := 0#32
  ![1, v162.toNat, 0]
def k0_off7 (d0 : Dev nD) : Fin 3 → Nat :=
  let c2_125 : Index := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_30 : BitVec 32 := 256#32
  let v48 : BitVec 32 := Scalar.muli v2 c256_i32_30
  let v171 : Index := Scalar.indexCast v48
  let c0_126 : Index := 0#32
  ![2, v171.toNat, 0]
def k0_off8 (d0 : Dev nD) : Fin 3 → Nat :=
  let c3_133 : Index := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_30 : BitVec 32 := 256#32
  let v48 : BitVec 32 := Scalar.muli v2 c256_i32_30
  let v180 : Index := Scalar.indexCast v48
  let c0_134 : Index := 0#32
  ![3, v180.toNat, 0]
def k0_dev8 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v201 : BitVec 32 := Scalar.muli v2 c8_i32_157
  let v202 : BitVec 32 := Scalar.addi c0_i32_158 v201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v203 : BitVec 32 := Scalar.muli v5 c4_i32_159
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_160 : BitVec 32 := 1#32
  let v205 : BitVec 32 := Scalar.muli v13 c1_i32_160
  let v206 : BitVec 32 := Scalar.addi v204 v205
  v206.toNat
def k0_dev9 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v215 : BitVec 32 := Scalar.muli v2 c8_i32_169
  let v216 : BitVec 32 := Scalar.addi c0_i32_170 v215
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_171 : BitVec 32 := 4#32
  let v217 : BitVec 32 := Scalar.muli v14 c4_i32_171
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v219 : BitVec 32 := Scalar.muli v8 c1_i32_172
  let v220 : BitVec 32 := Scalar.addi v218 v219
  v220.toNat
def k0_off9 (d0 : Dev nD) : Fin 3 → Nat :=
  let c0_178 : Index := 0#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_177 : BitVec 32 := 64#32
  let v229 : BitVec 32 := Scalar.muli v16 c64_i32_177
  let v230 : Index := Scalar.indexCast v229
  let c0_179 : Index := 0#32
  ![0, v230.toNat, 0]
def k0_dev10 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v253 : BitVec 32 := Scalar.muli v2 c8_i32_201
  let v254 : BitVec 32 := Scalar.addi c0_i32_202 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v255 : BitVec 32 := Scalar.muli v5 c4_i32_203
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_204 : BitVec 32 := 1#32
  let v257 : BitVec 32 := Scalar.muli v13 c1_i32_204
  let v258 : BitVec 32 := Scalar.addi v256 v257
  v258.toNat
def k0_dev11 (d0 : Dev nD) : Nat :=
  let c0_i32_214 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_213 : BitVec 32 := 8#32
  let v267 : BitVec 32 := Scalar.muli v2 c8_i32_213
  let v268 : BitVec 32 := Scalar.addi c0_i32_214 v267
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_215 : BitVec 32 := 4#32
  let v269 : BitVec 32 := Scalar.muli v14 c4_i32_215
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v271 : BitVec 32 := Scalar.muli v8 c1_i32_216
  let v272 : BitVec 32 := Scalar.addi v270 v271
  v272.toNat
def k0_off10 (d0 : Dev nD) : Fin 3 → Nat :=
  let c1_222 : Index := 1#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_221 : BitVec 32 := 64#32
  let v281 : BitVec 32 := Scalar.muli v16 c64_i32_221
  let v282 : Index := Scalar.indexCast v281
  let c0_223 : Index := 0#32
  ![1, v282.toNat, 0]
def k0_dev12 (d0 : Dev nD) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v305 : BitVec 32 := Scalar.muli v2 c8_i32_245
  let v306 : BitVec 32 := Scalar.addi c0_i32_246 v305
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_247 : BitVec 32 := 4#32
  let v307 : BitVec 32 := Scalar.muli v5 c4_i32_247
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_248 : BitVec 32 := 1#32
  let v309 : BitVec 32 := Scalar.muli v13 c1_i32_248
  let v310 : BitVec 32 := Scalar.addi v308 v309
  v310.toNat
def k0_dev13 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v319 : BitVec 32 := Scalar.muli v2 c8_i32_257
  let v320 : BitVec 32 := Scalar.addi c0_i32_258 v319
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_259 : BitVec 32 := 4#32
  let v321 : BitVec 32 := Scalar.muli v14 c4_i32_259
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.muli v8 c1_i32_260
  let v324 : BitVec 32 := Scalar.addi v322 v323
  v324.toNat
def k0_off11 (d0 : Dev nD) : Fin 3 → Nat :=
  let c2_266 : Index := 2#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_265 : BitVec 32 := 64#32
  let v333 : BitVec 32 := Scalar.muli v16 c64_i32_265
  let v334 : Index := Scalar.indexCast v333
  let c0_267 : Index := 0#32
  ![2, v334.toNat, 0]
def k0_dev14 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v357 : BitVec 32 := Scalar.muli v2 c8_i32_289
  let v358 : BitVec 32 := Scalar.addi c0_i32_290 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v359 : BitVec 32 := Scalar.muli v5 c4_i32_291
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_292 : BitVec 32 := 1#32
  let v361 : BitVec 32 := Scalar.muli v13 c1_i32_292
  let v362 : BitVec 32 := Scalar.addi v360 v361
  v362.toNat
def k0_dev15 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v371 : BitVec 32 := Scalar.muli v2 c8_i32_301
  let v372 : BitVec 32 := Scalar.addi c0_i32_302 v371
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_303 : BitVec 32 := 4#32
  let v373 : BitVec 32 := Scalar.muli v14 c4_i32_303
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v375 : BitVec 32 := Scalar.muli v8 c1_i32_304
  let v376 : BitVec 32 := Scalar.addi v374 v375
  v376.toNat
def k0_off12 (d0 : Dev nD) : Fin 3 → Nat :=
  let c3_310 : Index := 3#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c64_i32_309 : BitVec 32 := 64#32
  let v385 : BitVec 32 := Scalar.muli v16 c64_i32_309
  let v386 : Index := Scalar.indexCast v385
  let c0_311 : Index := 0#32
  ![3, v386.toNat, 0]
def k0_dev16 (d0 : Dev nD) : Nat :=
  let c0_i32_334 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_333 : BitVec 32 := 8#32
  let v409 : BitVec 32 := Scalar.muli v2 c8_i32_333
  let v410 : BitVec 32 := Scalar.addi c0_i32_334 v409
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_335 : BitVec 32 := 4#32
  let v411 : BitVec 32 := Scalar.muli v14 c4_i32_335
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v413 : BitVec 32 := Scalar.muli v8 c1_i32_336
  let v414 : BitVec 32 := Scalar.addi v412 v413
  v414.toNat
def k0_off13 (d0 : Dev nD) : Fin 3 → Nat :=
  let c0_342 : Index := 0#32
  let c2_i32_8 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.muli c2_i32_8 v5
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v18 : BitVec 32 := Scalar.subi c1_i32_9 v9
  let v19 : BitVec 32 := Scalar.addi v17 v18
  let c64_i32_341 : BitVec 32 := 64#32
  let v423 : BitVec 32 := Scalar.muli v19 c64_i32_341
  let v424 : Index := Scalar.indexCast v423
  let c0_343 : Index := 0#32
  ![0, v424.toNat, 0]
def k0_dev17 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_365 : BitVec 32 := 8#32
  let v447 : BitVec 32 := Scalar.muli v2 c8_i32_365
  let v448 : BitVec 32 := Scalar.addi c0_i32_366 v447
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_367 : BitVec 32 := 4#32
  let v449 : BitVec 32 := Scalar.muli v14 c4_i32_367
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v451 : BitVec 32 := Scalar.muli v8 c1_i32_368
  let v452 : BitVec 32 := Scalar.addi v450 v451
  v452.toNat
def k0_off14 (d0 : Dev nD) : Fin 3 → Nat :=
  let c1_374 : Index := 1#32
  let c2_i32_8 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.muli c2_i32_8 v5
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v18 : BitVec 32 := Scalar.subi c1_i32_9 v9
  let v19 : BitVec 32 := Scalar.addi v17 v18
  let c64_i32_373 : BitVec 32 := 64#32
  let v461 : BitVec 32 := Scalar.muli v19 c64_i32_373
  let v462 : Index := Scalar.indexCast v461
  let c0_375 : Index := 0#32
  ![1, v462.toNat, 0]
def k0_dev18 (d0 : Dev nD) : Nat :=
  let c0_i32_398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_397 : BitVec 32 := 8#32
  let v485 : BitVec 32 := Scalar.muli v2 c8_i32_397
  let v486 : BitVec 32 := Scalar.addi c0_i32_398 v485
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_399 : BitVec 32 := 4#32
  let v487 : BitVec 32 := Scalar.muli v14 c4_i32_399
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v489 : BitVec 32 := Scalar.muli v8 c1_i32_400
  let v490 : BitVec 32 := Scalar.addi v488 v489
  v490.toNat
def k0_off15 (d0 : Dev nD) : Fin 3 → Nat :=
  let c2_406 : Index := 2#32
  let c2_i32_8 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.muli c2_i32_8 v5
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v18 : BitVec 32 := Scalar.subi c1_i32_9 v9
  let v19 : BitVec 32 := Scalar.addi v17 v18
  let c64_i32_405 : BitVec 32 := 64#32
  let v499 : BitVec 32 := Scalar.muli v19 c64_i32_405
  let v500 : Index := Scalar.indexCast v499
  let c0_407 : Index := 0#32
  ![2, v500.toNat, 0]
def k0_dev19 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v523 : BitVec 32 := Scalar.muli v2 c8_i32_429
  let v524 : BitVec 32 := Scalar.addi c0_i32_430 v523
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_6 v5
  let c4_i32_431 : BitVec 32 := 4#32
  let v525 : BitVec 32 := Scalar.muli v14 c4_i32_431
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v527 : BitVec 32 := Scalar.muli v8 c1_i32_432
  let v528 : BitVec 32 := Scalar.addi v526 v527
  v528.toNat
def k0_off16 (d0 : Dev nD) : Fin 3 → Nat :=
  let c3_438 : Index := 3#32
  let c2_i32_8 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.muli c2_i32_8 v5
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v18 : BitVec 32 := Scalar.subi c1_i32_9 v9
  let v19 : BitVec 32 := Scalar.addi v17 v18
  let c64_i32_437 : BitVec 32 := 64#32
  let v537 : BitVec 32 := Scalar.muli v19 c64_i32_437
  let v538 : Index := Scalar.indexCast v537
  let c0_439 : Index := 0#32
  ![3, v538.toNat, 0]
def k0_off17 (d0 : Dev nD) : Fin 3 → Nat :=
  let c0_458 : Index := 0#32
  let c2_i32_11 : BitVec 32 := 2#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v22 : BitVec 32 := Scalar.addi v21 v9
  let c64_i32_457 : BitVec 32 := 64#32
  let v561 : BitVec 32 := Scalar.muli v22 c64_i32_457
  let v562 : Index := Scalar.indexCast v561
  let c0_459 : Index := 0#32
  ![0, v562.toNat, 0]
def k0_off18 (d0 : Dev nD) : Fin 3 → Nat :=
  let c1_478 : Index := 1#32
  let c2_i32_11 : BitVec 32 := 2#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v22 : BitVec 32 := Scalar.addi v21 v9
  let c64_i32_477 : BitVec 32 := 64#32
  let v585 : BitVec 32 := Scalar.muli v22 c64_i32_477
  let v586 : Index := Scalar.indexCast v585
  let c0_479 : Index := 0#32
  ![1, v586.toNat, 0]
def k0_off19 (d0 : Dev nD) : Fin 3 → Nat :=
  let c2_498 : Index := 2#32
  let c2_i32_11 : BitVec 32 := 2#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v22 : BitVec 32 := Scalar.addi v21 v9
  let c64_i32_497 : BitVec 32 := 64#32
  let v609 : BitVec 32 := Scalar.muli v22 c64_i32_497
  let v610 : Index := Scalar.indexCast v609
  let c0_499 : Index := 0#32
  ![2, v610.toNat, 0]
def k0_off20 (d0 : Dev nD) : Fin 3 → Nat :=
  let c3_518 : Index := 3#32
  let c2_i32_11 : BitVec 32 := 2#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v22 : BitVec 32 := Scalar.addi v21 v9
  let c64_i32_517 : BitVec 32 := 64#32
  let v633 : BitVec 32 := Scalar.muli v22 c64_i32_517
  let v634 : Index := Scalar.indexCast v633
  let c0_519 : Index := 0#32
  ![3, v634.toNat, 0]
def k0_off21 (d0 : Dev nD) : Fin 3 → Nat :=
  let c0_538 : Index := 0#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c64_i32_537 : BitVec 32 := 64#32
  let v657 : BitVec 32 := Scalar.muli v26 c64_i32_537
  let v658 : Index := Scalar.indexCast v657
  let c0_539 : Index := 0#32
  ![0, v658.toNat, 0]
def k0_off22 (d0 : Dev nD) : Fin 3 → Nat :=
  let c1_558 : Index := 1#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c64_i32_557 : BitVec 32 := 64#32
  let v681 : BitVec 32 := Scalar.muli v26 c64_i32_557
  let v682 : Index := Scalar.indexCast v681
  let c0_559 : Index := 0#32
  ![1, v682.toNat, 0]
def k0_off23 (d0 : Dev nD) : Fin 3 → Nat :=
  let c2_578 : Index := 2#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c64_i32_577 : BitVec 32 := 64#32
  let v705 : BitVec 32 := Scalar.muli v26 c64_i32_577
  let v706 : Index := Scalar.indexCast v705
  let c0_579 : Index := 0#32
  ![2, v706.toNat, 0]
def k0_off24 (d0 : Dev nD) : Fin 3 → Nat :=
  let c3_598 : Index := 3#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c64_i32_597 : BitVec 32 := 64#32
  let v729 : BitVec 32 := Scalar.muli v26 c64_i32_597
  let v730 : Index := Scalar.indexCast v729
  let c0_599 : Index := 0#32
  ![3, v730.toNat, 0]
abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S1024x1024, .f32⟩
  | .hbm, ⟨2, _⟩ => ⟨S4x512x1024, .f32⟩
  | .hbm, ⟨3, _⟩ => ⟨S4x512x1024, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Sched.lean ====
/-
  The protocol of the kernel, before any program is run: the peers, the 33 semaphore cells of a device, the slots the
  copies move, what every slot holds once its copy has landed, and the round schedule that ties them together.

  Devices are numbered c = 8x + 4y + z. A device trades with three others: `px` (x flipped), `pz` (low bit of z flipped)
  and `ny` (y flipped). Four families of copies, a = 0..3, four slots each, b = 0..3:

    a = 0   own products             -> px's recv_x
    a = 1   recv_x (arrived)         -> pz's recv_z
    a = 2   recv_x (arrived)         -> ny's recv_y0
    a = 3   recv_z (arrived)         -> ny's recv_y1

  Each (a, b) has a send cell on the sender and a receive cell on the receiver, one duty each, in round 0. The barrier
  cell of a device has three duties, one unit each: a peer pays with the slots this device will write there, and with the
  fact that the receive cells of those slots are open.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.StableHlo
public import Idealize.ShloMosaic.Lib.Tactic
public import Idealize.ShloMosaic.Lib.Writes
public import Idealize.ShloMosaic.Lib.Ring
public import Idealize.ShloMosaic.Lib.Pipeline.RegionTalk

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Peers -/

/-- The device with x flipped. -/
def px (c : Dev nD) : Dev nD := ⟨k0_dev1 c, k0_dev1_lt c⟩
/-- The device with the low bit of z flipped. -/
def pz (c : Dev nD) : Dev nD := ⟨k0_dev2 c, k0_dev2_lt c⟩
/-- The device with y flipped. -/
def ny (c : Dev nD) : Dev nD := ⟨k0_dev3 c, k0_dev3_lt c⟩

/-- The receiver of the copies of family a. -/
def peer (a : Fin 4) (c : Dev nD) : Dev nD := match a with | 0 => px c | 1 => pz c | 2 => ny c | 3 => ny c

theorem px_px : ∀ c, px (px c) = c := by decide
theorem pz_pz : ∀ c, pz (pz c) = c := by decide
theorem ny_ny : ∀ c, ny (ny c) = c := by decide
/-- Every family's peer map is an involution. -/
theorem peer_peer (a : Fin 4) (c : Dev nD) : peer a (peer a c) = c := by
  revert a c; decide

/-- Every target the program computes is the peer of the family it sends to. -/
theorem dev4_eq : ∀ c, (⟨k0_dev4 c, k0_dev4_lt c⟩ : Dev nD) = px c := by decide
theorem dev5_eq : ∀ c, (⟨k0_dev5 c, k0_dev5_lt c⟩ : Dev nD) = px c := by decide
theorem dev6_eq : ∀ c, (⟨k0_dev6 c, k0_dev6_lt c⟩ : Dev nD) = px c := by decide
theorem dev7_eq : ∀ c, (⟨k0_dev7 c, k0_dev7_lt c⟩ : Dev nD) = px c := by decide
theorem dev8_eq : ∀ c, (⟨k0_dev8 c, k0_dev8_lt c⟩ : Dev nD) = pz c := by decide
theorem dev9_eq : ∀ c, (⟨k0_dev9 c, k0_dev9_lt c⟩ : Dev nD) = ny c := by decide
theorem dev10_eq : ∀ c, (⟨k0_dev10 c, k0_dev10_lt c⟩ : Dev nD) = pz c := by decide
theorem dev11_eq : ∀ c, (⟨k0_dev11 c, k0_dev11_lt c⟩ : Dev nD) = ny c := by decide
theorem dev12_eq : ∀ c, (⟨k0_dev12 c, k0_dev12_lt c⟩ : Dev nD) = pz c := by decide
theorem dev13_eq : ∀ c, (⟨k0_dev13 c, k0_dev13_lt c⟩ : Dev nD) = ny c := by decide
theorem dev14_eq : ∀ c, (⟨k0_dev14 c, k0_dev14_lt c⟩ : Dev nD) = pz c := by decide
theorem dev15_eq : ∀ c, (⟨k0_dev15 c, k0_dev15_lt c⟩ : Dev nD) = ny c := by decide
theorem dev16_eq : ∀ c, (⟨k0_dev16 c, k0_dev16_lt c⟩ : Dev nD) = ny c := by decide
theorem dev17_eq : ∀ c, (⟨k0_dev17 c, k0_dev17_lt c⟩ : Dev nD) = ny c := by decide
theorem dev18_eq : ∀ c, (⟨k0_dev18 c, k0_dev18_lt c⟩ : Dev nD) = ny c := by decide
theorem dev19_eq : ∀ c, (⟨k0_dev19 c, k0_dev19_lt c⟩ : Dev nD) = ny c := by decide

/-! ## Semaphores and cells -/

/-- The DMA semaphore of direction r (false: send, true: receive), family a, slot b. -/
def dsem (k : Bool × Fin 4 × Fin 4) : DmaSem sig :=
  ⟨3 + 8 * k.2.1.val + (if k.1 then 4 else 0) + k.2.2.val, by
    have := k.2.1.isLt; have := k.2.2.isLt; show _ < 35; split <;> omega⟩

/-- No two directions, families or slots share a semaphore. -/
theorem dsem_inj : Function.Injective dsem := by decide

/-- The program's barrier semaphore. -/
abbrev barS : Sem sig := ((SemArray.scalar (sig.barrier 0 rfl) : Sems sig S_)).sem

abbrev barCell (c : Dev nD) : GSem nD τ sig := ((c : Thread nD τ), .reg barS)
abbrev dcell (c : Dev nD) (k : Bool × Fin 4 × Fin 4) : GSem nD τ sig := ((c : Thread nD τ), .dma (dsem k))
abbrev sendCell (c : Dev nD) (a b : Fin 4) : GSem nD τ sig := dcell c (false, a, b)
abbrev recvCell (c : Dev nD) (a b : Fin 4) : GSem nD τ sig := dcell c (true, a, b)

/-- The direction, family and slot of a semaphore. -/
def dkey (s : DmaSem sig) : Bool × Fin 4 × Fin 4 :=
  (decide (4 ≤ (s.val - 3) % 8), ⟨(s.val - 3) / 8 % 4, Nat.mod_lt _ (by decide)⟩, ⟨(s.val - 3) % 4, Nat.mod_lt _ (by decide)⟩)
theorem dkey_dsem : ∀ k, dkey (dsem k) = k := by decide
theorem three_le_dsem : ∀ k, 3 ≤ (dsem k).val := by decide

/-! ## Slots -/

/-- Slot b of a four-slot buffer. -/
abbrev slotR (b : Fin 4) : Rect S4x64x1024 :=
  Rect.unit (s := S4x64x1024) ![b.val, 0, 0] S1x64x1024.size (by revert b; decide)

/-- The slot as the copies name it: sliced, then squeezed to a matrix. -/
abbrev slotM (B : Memref sig .tc .vmem S4x64x1024 .bf16) (b : Fin 4) : Memref sig .tc .vmem S64x1024 .bf16 :=
  (B.slice (slotR b) (fun _ => rfl)).squeeze S64x1024 squeezes_S1x64x1024_S64x1024

/-- The buffer the copies of family a land in. -/
abbrev lbuf (a : Fin 4) : Memref sig .tc .vmem S4x64x1024 .bf16 :=
  match a with
  | 0 => Memref.whole cc0_scratch1 | 1 => Memref.whole cc0_scratch2 | 2 => Memref.whole cc0_scratch3 | 3 => Memref.whole cc0_scratch4
/-- The buffer the copies of family a are read from. -/
abbrev sbuf (a : Fin 4) : Memref sig .tc .vmem S4x64x1024 .bf16 :=
  match a with
  | 0 => Memref.whole cc0_scratch0 | 1 => Memref.whole cc0_scratch1 | 2 => Memref.whole cc0_scratch1 | 3 => Memref.whole cc0_scratch2
/-- The share of its source a copy of family a carries while it is in flight: a slot that is forwarded is read again while
    the copies read it, so the sender keeps the rest. -/
abbrev sq (a : Fin 4) : PosShare TreeShare :=
  match a with
  | 0 => fullShare | 1 => fullShare.left | 2 => fullShare.right.left | 3 => fullShare.left

/-- The credit of one slot. -/
abbrev N : ℕ := (slotM (Memref.whole cc0_scratch1) 0).view.dmaCredit
theorem N_pos : 0 < N := View.dmaCredit_pos _ (by decide)
theorem credit_l (a b : Fin 4) : (slotM (lbuf a) b).view.dmaCredit = N := by revert a b; decide
theorem credit_s (a b : Fin 4) : (slotM (sbuf a) b).view.dmaCredit = N := by revert a b; decide

/-! ## Resources -/

/-- The duties of a cell are named by `Fin 3`: the barrier cell has three, every other cell the one named 0. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A share of slot b of a buffer on device c, reading v. -/
def slotPts (q : PosShare TreeShare) (B : Memref sig .tc .vmem S4x64x1024 .bf16) (c : Dev nD) (b : Fin 4) (v : Vec F S1x64x1024 .bf16) : sProp 𝕄 :=
  iprop(∃ f : Buf (Elt F) ((B.access (slotR b)).loc (c : Thread nD τ)), ⌜(B.access (slotR b)).read (Elt F) f = v⌝
    ∗ (B.access (slotR b)).loc (c : Thread nD τ) ↦[(B.access (slotR b)).set]{q} f)
/-- The whole slot, whatever it reads. -/
def slotAny (B : Memref sig .tc .vmem S4x64x1024 .bf16) (c : Dev nD) (b : Fin 4) : sProp 𝕄 :=
  iprop(∃ v, slotPts fullShare B c b v)

instance slotPts_storable (q : PosShare TreeShare) (B : Memref sig .tc .vmem S4x64x1024 .bf16) (c : Dev nD) (b : Fin 4) (v : Vec F S1x64x1024 .bf16) :
    BI.Storable (upEmb : UEmb _ 𝕄) (slotPts q B c b v) := by unfold slotPts; infer_instance
instance slotAny_storable (B : Memref sig .tc .vmem S4x64x1024 .bf16) (c : Dev nD) (b : Fin 4) :
    BI.Storable (upEmb : UEmb _ 𝕄) (slotAny (F := F) B c b) := by unfold slotAny; infer_instance

/-! ## Contents -/

/-- What the two input windows hold on each device. -/
abbrev XT (F : FTy → Type) : Type := Dev nD → (cc0_stg0_0 : Ref sig .tc).ty.Contents (Elt F)
abbrev YT (F : FTy → Type) : Type := Dev nD → (cc0_stg1_0 : Ref sig .tc).ty.Contents (Elt F)

abbrev xM : Memref sig .tc .vmem S4x512x512 .f32 := Memref.whole cc0_stg0_0
abbrev yM : Memref sig .tc .vmem S512x1024 .f32 := Memref.whole cc0_stg1_0
abbrev oM : Memref sig .tc .vmem S4x256x1024 .f32 := Memref.whole cc0_stg2_0

variable (X : XT F) (Y : YT F)

/-- The whole second operand, as the program reads it. -/
abbrev yV (c : Dev nD) : Vec F S512x1024 .f32 :=
  (yM.access (Rect.unit (s := S512x1024) ![0, 0] S512x1024.size inb_S512x1024_S512x1024_0_0)).read (Elt F) (Y c)

/-- The product device c sends for slot b. -/
def sent (c : Dev nD) (b : Fin 4) : Vec F S1x64x1024 .bf16 :=
  match b with
  | 0 => k0_pay1 ((xM.access (Rect.unit (s := S4x512x512) (k0_off1 c) S1x64x512.size (k0_off1_inb c))).read (Elt F) (X c)) (yV Y c)
  | 1 => k0_pay2 ((xM.access (Rect.unit (s := S4x512x512) (k0_off2 c) S1x64x512.size (k0_off2_inb c))).read (Elt F) (X c)) (yV Y c)
  | 2 => k0_pay3 ((xM.access (Rect.unit (s := S4x512x512) (k0_off3 c) S1x64x512.size (k0_off3_inb c))).read (Elt F) (X c)) (yV Y c)
  | 3 => k0_pay4 ((xM.access (Rect.unit (s := S4x512x512) (k0_off4 c) S1x64x512.size (k0_off4_inb c))).read (Elt F) (X c)) (yV Y c)

/-- What device c sends in family a. -/
def outV (a : Fin 4) (c : Dev nD) (b : Fin 4) : Vec F S1x64x1024 .bf16 :=
  match a with
  | 0 => sent X Y c b | 1 => sent X Y (px c) b | 2 => sent X Y (px c) b | 3 => sent X Y (px (pz c)) b
/-- What lands on device c in family a: what its peer sends. -/
def inV (a : Fin 4) (c : Dev nD) (b : Fin 4) : Vec F S1x64x1024 .bf16 := outV X Y a (peer a c) b

/-! ## The schedule -/

/-- Device p's landing slot of family a and its receive cell, as lent to the peer that writes it. -/
def ready (a : Fin 4) (p : Dev nD) (b : Fin 4) : sProp 𝕄 :=
  iprop(slotAny (F := F) (lbuf a) p b ∗ reached ER (recvCell p a b) 0)
/-- All four slots of a landing buffer, lent. -/
def lend (a : Fin 4) (p : Dev nD) : sProp 𝕄 :=
  iprop(ready (F := F) a p 0 ∗ ready (F := F) a p 1 ∗ ready (F := F) a p 2 ∗ ready (F := F) a p 3)
/-- What duty d of device c's barrier cell hands c: the slots of the peer that c will write. -/
def barPay (c : Dev nD) (d : Fin 3) : sProp 𝕄 :=
  match d with
  | 0 => lend (F := F) 0 (px c) | 1 => lend (F := F) 1 (pz c) | 2 => iprop(lend (F := F) 2 (ny c) ∗ lend (F := F) 3 (ny c))
/-- What the duty of a DMA cell hands its owner: on a receive cell the landing slot at what landed, on a send cell the
    share of the source back. -/
def dpay (c : Dev nD) (k : Bool × Fin 4 × Fin 4) : sProp 𝕄 :=
  match k with
  | (true, a, b) => slotPts fullShare (lbuf a) c b (inV X Y a c b)
  | (false, a, b) => slotPts (sq a) (sbuf a) c b (outV X Y a c b)

instance barPay_storable (c : Dev nD) (d : Fin 3) : BI.Storable (upEmb : UEmb _ 𝕄) (barPay (F := F) c d) := by
  unfold barPay lend ready; split <;> infer_instance
instance dpay_storable (c : Dev nD) (k : Bool × Fin 4 × Fin 4) : BI.Storable (upEmb : UEmb _ 𝕄) (dpay X Y c k) := by
  unfold dpay; split <;> infer_instance

/-- The duties of round 0 of a cell. -/
def cellDuties (s : SemLoc sig) : Finset (Fin 3) :=
  match s with
  | .reg s => if s = barS then Finset.univ else ∅
  | .dma s => if 3 ≤ s.val then {0} else ∅
def cellAmount (s : SemLoc sig) : ℕ := match s with | .reg _ => 1 | .dma _ => N
def cellPay (c : Dev nD) (s : SemLoc sig) (d : Fin 3) : sProp 𝕄 :=
  match s with | .reg _ => barPay (F := F) c d | .dma s => dpay X Y c (dkey s)

/-- The protocol: one round on every cell of it. -/
def Rd : Rounds.Schedule (GSem nD τ sig) (Fin 3) 𝕄 where
  duties g r := if r = 0 ∧ g.1.2 = .tc then cellDuties g.2 else ∅
  unitless _ := False
  amount g _ _ := cellAmount g.2
  payload g _ d := cellPay X Y g.1.1 g.2 d
  amount_pos g _ _ _ := by unfold cellAmount; split; exacts [Nat.one_pos, N_pos]

instance Rd_storable (g : GSem nD τ sig) (r : ℕ) (d : Fin 3) : BI.Storable (upEmb : UEmb _ 𝕄) ((Rd X Y).payload g r d) := by
  show BI.Storable upEmb (cellPay X Y g.1.1 g.2 d)
  unfold cellPay; split <;> infer_instance

section Tables
variable (c : Dev nD) (k : Bool × Fin 4 × Fin 4)

theorem duties_bar : (Rd X Y).duties (barCell c) 0 = Finset.univ := by
  dsimp only [Rd]; rw [if_pos ⟨rfl, rfl⟩]
  show (if barS = barS then (Finset.univ : Finset (Fin 3)) else ∅) = _
  exact if_pos rfl
theorem duties_d : (Rd X Y).duties (dcell c k) 0 = {0} := by
  dsimp only [Rd]; rw [if_pos ⟨rfl, rfl⟩]; exact if_pos (three_le_dsem k)
/-- Nothing is due after round 0. -/
theorem duties_later (g : GSem nD τ sig) : ∀ r, 1 ≤ r → (Rd X Y).duties g r = ∅ :=
  fun r hr => if_neg fun h => by omega
theorem amount_bar (d : Fin 3) : (Rd X Y).amount (barCell c) 0 d = 1 := rfl
theorem amount_d (d : Fin 3) : (Rd X Y).amount (dcell c k) 0 d = N := rfl
theorem expect_bar : (Rd X Y).expect (barCell c) 0 = 3 := by
  unfold Schedule.expect Schedule.amountOf; rw [duties_bar]; simp only [amount_bar]; rfl
theorem expect_d : (Rd X Y).expect (dcell c k) 0 = N := by
  unfold Schedule.expect Schedule.amountOf; rw [duties_d, Finset.sum_singleton, amount_d]
theorem payload_bar (d : Fin 3) : (Rd X Y).payload (barCell c) 0 d = barPay (F := F) c d := rfl
theorem payload_d (d : Fin 3) : (Rd X Y).payload (dcell c k) 0 d = dpay X Y c k := by
  show dpay X Y c (dkey (dsem k)) = _
  rw [dkey_dsem]
/-- What the barrier wait gives: the three peers' slots. -/
theorem rest_bar : bigSep ((Rd X Y).duties (barCell c) 0 \ ∅) (fun d => (Rd X Y).payload (barCell c) 0 d)
    = iprop(lend (F := F) 0 (px c) ∗ lend (F := F) 1 (pz c) ∗ lend (F := F) 2 (ny c) ∗ lend (F := F) 3 (ny c)) := by
  rw [Finset.sdiff_empty, duties_bar, Ring.bigSep_fin3]; rfl
theorem rest_d : bigSep ((Rd X Y).duties (dcell c k) 0 \ ∅) (fun d => (Rd X Y).payload (dcell c k) 0 d) = dpay X Y c k := by
  rw [Finset.sdiff_empty, duties_d, bigSep_singleton, payload_d]

end Tables

/-! ## What a device owes, and the order in which cells may be waited on -/

/-- A payment to another device: a barrier duty, or the receive credit of a copy. -/
abbrev Due : Type := Fin 3 ⊕ (Fin 4 × Fin 4)
/-- The cell a payment of device c goes to, and how many units it is. -/
def dueCell (c : Dev nD) (e : Due) : GSem nD τ sig :=
  match e with
  | .inl d => barCell (peer d.castSucc c) | .inr (a, b) => recvCell (peer a c) a b
def dueAmt (e : Due) : ℕ := match e with | .inl _ => 1 | .inr _ => N
/-- The payments `l` of device c, as a tally. -/
def owing (c : Dev nD) : List Due → CellTallies nD τ sig Unit
  | [] => 0
  | e :: l => owing c l + tallyAt (dueCell c e) () (dueAmt e)
/-- All payments of a device, in program order. -/
def allDue : List Due :=
  [.inl 0, .inl 1, .inl 2, .inr (0, 0), .inr (0, 1), .inr (0, 2), .inr (0, 3),
   .inr (1, 0), .inr (2, 0), .inr (1, 1), .inr (2, 1), .inr (1, 2), .inr (2, 2), .inr (1, 3), .inr (2, 3),
   .inr (3, 0), .inr (3, 1), .inr (3, 2), .inr (3, 3)]
/-- What device c owes at launch. -/
abbrev O₀ (c : Dev nD) : CellTallies nD τ sig Unit := owing c allDue

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The level of a semaphore: staging and send 0, barrier 1, receive cells of family a above, in the order the copies
    depend on each other. -/
def semLv (s : SemLoc sig) : ℕ :=
  match s with
  | .reg _ => 1
  | .dma s => if 3 ≤ s.val ∧ (dkey s).1 then 2 + (dkey s).2.1.val else 0
def lv (g : GSem nD τ sig) (_ : Unit) : ℕ := semLv g.2
def dueLv (e : Due) : ℕ := match e with | .inl _ => 1 | .inr (a, _) => 2 + a.val

theorem lv_due (c : Dev nD) (e : Due) (u : Unit) : lv (dueCell c e) u = dueLv e := by
  match e with
  | .inl _ => rfl
  | .inr (a, b) =>
    show (if 3 ≤ (dsem (true, a, b)).val ∧ (dkey (dsem (true, a, b))).1 then 2 + (dkey (dsem (true, a, b))).2.1.val else 0) = _
    rw [dkey_dsem, if_pos ⟨three_le_dsem _, rfl⟩]; rfl

/-- Whatever the payments `l` owe is at one of their cells. -/
theorem owing_pos (c : Dev nD) : ∀ (l : List Due) (g : GSem nD τ sig) (u : Unit), 0 < owing c l g u → ∃ e ∈ l, g = dueCell c e
  | [], _, _, h => absurd h (Nat.lt_irrefl 0)
  | e :: l, g, u, h => by
    have h' : 0 < owing c l g u + tallyAt (dueCell c e) () (dueAmt e) g u := h
    by_cases hg : g = dueCell c e ∧ u = ()
    · exact ⟨e, List.mem_cons_self, hg.1⟩
    · rw [tallyAt_apply, if_neg hg, Nat.add_zero] at h'
      obtain ⟨e', he', h''⟩ := owing_pos c l g u h'
      exact ⟨e', List.mem_cons_of_mem _ he', h''⟩

/-- A cell may be waited on while the payments still owed go to cells of higher level. -/
theorem mayWait (c : Dev nD) (s : SemLoc sig) (l : List Due) (h : ∀ e ∈ l, semLv s < dueLv e) :
    (levAts L lv : sProp 𝕄) ⊢ MayWait (c : Thread nD τ) s () (owing c l) :=
  MayOwe.of_cut (L := L) (lev := lv) (semLv s)
    (fun p hp => by rw [Finset.mem_singleton.mp hp, L_tc]; exact Finset.mem_singleton_self _)
    (fun g u hg => by
      obtain ⟨e, -, rfl⟩ := owing_pos c l g u hg
      match e with
      | .inl _ => exact (L_tc _ _) ▸ Finset.mem_singleton_self _
      | .inr _ => exact (L_tc _ _) ▸ Finset.mem_singleton_self _)
    (fun p hp => by rw [Finset.mem_singleton.mp hp]; exact le_rfl)
    (fun g u hg => by
      obtain ⟨e, he, rfl⟩ := owing_pos c l g u hg
      rw [lv_due]; exact h e he)

end Cert.KernelIdeal.Proto

end
-- ==== Proof.KernelIdeal.Steps.lean ====
/-
  One lemma per kind of step of the protocol, each for every family and slot at once: signal a peer's barrier cell, wait
  for the three peers, send a slot, wait for a slot to land, wait for a source back; and the loads and stores of a slot.
-/
module

public import proofs.«01_k».proof.Proof.KernelIdeal.Sched
public import Idealize.ShloMosaic.Lib.ViewIndex

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : XT F) (Y : YT F)

abbrev 𝒱₀ : Variants := Variants.none

/-- The invariants of all cells of the protocol, at the names `K`. -/
def recs (K : GSem nD τ sig → ℕ) : sProp 𝕄 :=
  iprop(bigSep Finset.univ (fun c : Dev nD => cellInv ER (Rd X Y) (K (barCell c)) (barCell c))
    ∗ bigSep Finset.univ (fun p : Dev nD × (Bool × Fin 4 × Fin 4) => cellInv ER (Rd X Y) (K (dcell p.1 p.2)) (dcell p.1 p.2)))

instance recs_persistent (K : GSem nD τ sig → ℕ) : BI.Persistent (recs X Y K) := by unfold recs; infer_instance

theorem recs_bar (K : GSem nD τ sig → ℕ) (c : Dev nD) : recs X Y K ⊢ cellInv ER (Rd X Y) (K (barCell c)) (barCell c) := by
  unfold recs
  exact sep_elim_left.trans (bigSep_elim (Finset.mem_univ c) (Φ := fun c : Dev nD => cellInv ER (Rd X Y) (K (barCell c)) (barCell c)))
theorem recs_d (K : GSem nD τ sig → ℕ) (c : Dev nD) (k : Bool × Fin 4 × Fin 4) :
    recs X Y K ⊢ cellInv ER (Rd X Y) (K (dcell c k)) (dcell c k) := by
  unfold recs
  exact sep_elim_right.trans
    (bigSep_elim (Finset.mem_univ (c, k)) (Φ := fun p : Dev nD × (Bool × Fin 4 × Fin 4) => cellInv ER (Rd X Y) (K (dcell p.1 p.2)) (dcell p.1 p.2)))

/-- Device c owes the payments `l`. -/
def ow (c : Dev nD) (l : List Due) : sProp 𝕄 := iprop(∃ W, owes (c : Thread nD τ) (owing c l) W)

/-- What device c pays and is paid with in the copy (a, b) it sends: both duty tokens, and that its send cell is open. -/
def sendKit (c : Dev nD) (a b : Fin 4) : sProp 𝕄 :=
  iprop(dutyTok ER (sendCell c a b) 0 0 ∗ reached ER (sendCell c a b) 0 ∗ dutyTok ER (recvCell (peer a c) a b) 0 0
    ∗ atPos ER (sendCell c a b) 0 ∅ 0)

/-- The payments left after the first n. -/
def due (n : ℕ) : List Due := allDue.drop n
/-- Duty d of the barrier cell of the peer that duty d goes to, and that this cell is open. -/
def barTok (c : Dev nD) (d : Fin 3) : sProp 𝕄 :=
  iprop(dutyTok ER (barCell (peer d.castSucc c)) 0 d ∗ reached ER (barCell (peer d.castSucc c)) 0)
/-- What device c waits on the receive cell (a, b) with. -/
def recvKit (c : Dev nD) (a b : Fin 4) : sProp 𝕄 :=
  iprop(cred (tallyAt (recvCell c a b) () N) ∗ atPos ER (recvCell c a b) 0 ∅ 0)
/-- What device c waits on the send cell (a, b) with, while the copy is in flight. -/
def flying (c : Dev nD) (a b : Fin 4) : sProp 𝕄 :=
  iprop(cred (tallyAt (sendCell c a b) () N) ∗ atPos ER (sendCell c a b) 0 ∅ 0)
/-- A cell closed, its counter at zero. -/
def shut (c : Dev nD) (k : Bool × Fin 4 × Fin 4) : sProp 𝕄 := semVal (dcell c k) 0

/-- A share of a slot is its two halves. -/
theorem slot_halves (q : PosShare TreeShare) (B : Memref sig .tc .vmem S4x64x1024 .bf16) (c : Dev nD) (b : Fin 4) (v : Vec F S1x64x1024 .bf16) :
    slotPts q B c b v ⊢ iprop(slotPts q.left B c b v ∗ slotPts q.right B c b v) := by
  unfold slotPts
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

/-- Two halves of a slot that read alike are the share. -/
theorem slot_unhalve (q : PosShare TreeShare) (B : Memref sig .tc .vmem S4x64x1024 .bf16) (c : Dev nD) (b : Fin 4) (v : Vec F S1x64x1024 .bf16) :
    iprop(slotPts q.left B c b v ∗ slotPts q.right B c b v) ⊢ slotPts q B c b v := by
  unfold slotPts
  iintro ⟨⟨%f, %hf, H1⟩, ⟨%g, %hg, H2⟩⟩
  iexists f
  isplitr; · ipureintro; exact hf
  have e : ((B.access (slotR b)).loc (c : Thread nD τ) ↦[(B.access (slotR b)).set]{q.right} g : sProp 𝕄)
      = ((B.access (slotR b)).loc (c : Thread nD τ) ↦[(B.access (slotR b)).set]{q.right} f) :=
    pointsTo_congr fun i hi => by
      obtain ⟨x, -, rfl⟩ := Finset.mem_map.mp hi
      exact View.eq_of_read_eq (congrFun (hg.trans hf.symm) x)
  ihave H2 := (Entails.of_eq e) $$ H2
  ihave H := (pointsTo_share (PosShare.mem_left_op_right q)).2 $$ [H1 H2]
  · isplitl [H1] <;> iassumption
  iexact H

/-- A slot of the first family that arrived: a share for each of the two copies that forward it, and one kept. -/
theorem split_x (c : Dev nD) (b : Fin 4) :
    slotPts fullShare (lbuf 0) c b (inV X Y 0 c b) ⊢ iprop(slotPts (sq 1) (sbuf 1) c b (outV X Y 1 c b) ∗ slotPts (sq 2) (sbuf 2) c b (outV X Y 2 c b)
      ∗ slotPts fullShare.right.right (lbuf 0) c b (inV X Y 0 c b)) := by
  iintro H
  ihave H := (slot_halves fullShare (lbuf 0) c b (inV X Y 0 c b)) $$ H
  icases H with ⟨H1, H⟩
  ihave H := (slot_halves fullShare.right (lbuf 0) c b (inV X Y 0 c b)) $$ H
  icases H with ⟨H2, H3⟩
  isplitl [H1]; · iexact H1
  isplitl [H2]; · iexact H2
  iexact H3
/-- The shares back together. -/
theorem join_x (c : Dev nD) (b : Fin 4) :
    iprop(slotPts (sq 1) (sbuf 1) c b (outV X Y 1 c b) ∗ slotPts (sq 2) (sbuf 2) c b (outV X Y 2 c b)
      ∗ slotPts fullShare.right.right (lbuf 0) c b (inV X Y 0 c b)) ⊢ slotAny (F := F) (lbuf 0) c b := by
  iintro ⟨H1, H2, H3⟩
  unfold slotAny
  iexists (inV X Y 0 c b)
  iapply (slot_unhalve fullShare (lbuf 0) c b (inV X Y 0 c b))
  isplitl [H1]; · iexact H1
  iapply (slot_unhalve fullShare.right (lbuf 0) c b (inV X Y 0 c b))
  isplitl [H2]; · iexact H2
  iexact H3
/-- A slot of the second family that arrived: a share for the copy that forwards it, and one kept. -/
theorem split_z (c : Dev nD) (b : Fin 4) :
    slotPts fullShare (lbuf 1) c b (inV X Y 1 c b) ⊢ iprop(slotPts (sq 3) (sbuf 3) c b (outV X Y 3 c b) ∗ slotPts fullShare.right (lbuf 1) c b (inV X Y 1 c b)) :=
  slot_halves fullShare (lbuf 1) c b (inV X Y 1 c b)
theorem join_z (c : Dev nD) (b : Fin 4) :
    iprop(slotPts (sq 3) (sbuf 3) c b (outV X Y 3 c b) ∗ slotPts fullShare.right (lbuf 1) c b (inV X Y 1 c b)) ⊢ slotAny (F := F) (lbuf 1) c b := by
  unfold slotAny
  iintro H
  iexists (inV X Y 1 c b)
  iapply (slot_unhalve fullShare (lbuf 1) c b (inV X Y 1 c b))
  iexact H

theorem dpay_recv (c : Dev nD) (a b : Fin 4) : dpay X Y c (true, a, b) ⊢ slotPts fullShare (lbuf a) c b (inV X Y a c b) := Entails.of_eq rfl
theorem dpay_sent (c : Dev nD) (a b : Fin 4) : dpay X Y c (false, a, b) ⊢ slotPts (sq a) (sbuf a) c b (outV X Y a c b) := Entails.of_eq rfl

section Steps
variable (K : GSem nD τ sig → ℕ) (c : Dev nD)

/-- SIGNAL: duty d of the barrier cell of its peer, paid with the slots that peer will write. -/
theorem signal_step {α : Type} {Q : α → sProp 𝕄} (d : Fin 3) (n : ℕ) (hn : due n = .inl d :: due (n + 1)) {dst : Dev nD} (hdst : dst = peer d.castSucc c)
    {k : PUnit → Prog (TpuEff nD τ sig (Elt F) Λ₀ .tc) α} :
    iprop(recs X Y K ∗ ow c (due n) ∗ barTok (F := F) c d
        ∗ barPay (F := F) (peer d.castSucc c) d
        ∗ (ow c (due (n + 1)) -∗ wp frame (wpE (defs₀ (F := F)) 𝒱₀ c none) Set.univ (k ⟨⟩) Q))
      ⊢ wp frame (wpE (defs₀ (F := F)) 𝒱₀ c none) Set.univ (.op (.semSignal (dst, (.tc : Proc τ)) barS (1#32).toInt) k) Q := by
  subst hdst
  rw [hn]
  unfold ow barTok
  iintro ⟨#HR, ⟨%W, HO⟩, ⟨Ht, Hr⟩, Hp, Hk⟩
  ihave #HI := (recs_bar X Y K (peer d.castSucc c)) $$ HR
  iapply (Rounds.wp_signal 𝒱₀ ER (Rd X Y) (c : Thread nD τ) none (dst := (peer d.castSucc c : Thread nD τ)) (sem := barS) (r := 0) (d := d)
      (k' := 1) (κ := K (barCell (peer d.castSucc c)))
      (by rw [duties_bar]; exact Finset.mem_univ _) rfl () (owing c (due (n + 1))) rfl (W := W)) $$ [HO Ht Hr Hp]
  · isplitr; · iexact HI
    isplitl [HO]; · iexact HO
    isplitl [Ht]; · iexact Ht
    isplitl [Hp]; · rw [payload_bar]; iexact Hp
    iexact Hr
  iintro HO
  iapply Hk
  iexists W; iexact HO

/-- Nothing more is due on a cell whose round 0 is over: it is closed and its counter, at zero, comes back. -/
theorem close_cell (g : GSem nD τ sig) : iprop(cellInv ER (Rd X Y) (K g) g ∗ atPos ER g (0 + 1) ∅ 0) ⊢ (|={Set.univ}=> semVal g 0 : sProp 𝕄) :=
  Rounds.cell_close ER (Rd X Y) (Set.mem_univ (K g)) id (duties_later X Y g)

/-- BARRIER WAIT: the three peers' slots come, the barrier cell is closed. -/
theorem barrier_step {α : Type} {Q : α → sProp 𝕄} (l : List Due) (hl : ∀ e ∈ l, 1 < dueLv e)
    {k : PUnit → Prog (TpuEff nD τ sig (Elt F) Λ₀ .tc) α} :
    iprop(recs X Y K ∗ levAts L lv ∗ ow c l ∗ cred (tallyAt (barCell c) () 3) ∗ atPos ER (barCell c) 0 ∅ 0
        ∗ ((ow c l ∗ semVal (barCell c) 0 ∗ lend (F := F) 0 (px c) ∗ lend (F := F) 1 (pz c) ∗ lend (F := F) 2 (ny c) ∗ lend (F := F) 3 (ny c))
            -∗ wp frame (wpE (defs₀ (F := F)) 𝒱₀ c none) Set.univ (k ⟨⟩) Q))
      ⊢ wp frame (wpE (defs₀ (F := F)) 𝒱₀ c none) Set.univ (.op (.semWait barS (3#32).toInt) k) Q := by
  unfold ow
  iintro ⟨#HR, #Hlev, ⟨%W, HO⟩, Hc, Hat, Hk⟩
  ihave #HI := (recs_bar X Y K c) $$ HR
  iapply (Rounds.wp_wait_rest_token 𝒱₀ ER (Rd X Y) (c : Thread nD τ) none (κ := K (barCell c)) (k' := 3)
      (wpE_semWait_eq 𝒱₀ (c : Thread nD τ) none Set.univ) (Set.mem_univ _) () (O := owing c l) (W := W) (R := 0) (m := 0) (T := ∅)
      ((Nat.zero_add 3).trans (expect_bar X Y c).symm)) $$ [Hc HO Hat]
  · isplitr; · iexact HI
    isplitl [Hc]; · iexact Hc
    isplitl [HO]; · iexact HO
    isplitr; · iapply (mayWait c (.reg barS) l hl); iexact Hlev
    iexact Hat
  iintro ⟨HO, Hat, -, Hp⟩
  ihave Hp := (Entails.of_eq (rest_bar X Y c)) $$ Hp
  icases Hp with ⟨H0, H1, H2, H3⟩
  imod (close_cell X Y K (barCell c)) $$ [Hat] with Hz
  · isplitr; · iexact HI
    iexact Hat
  iapply Hk
  isplitl [HO]; · iexists _; iexact HO
  isplitl [Hz]; · iexact Hz
  isplitl [H0]; · iexact H0
  isplitl [H1]; · iexact H1
  isplitl [H2] <;> iassumption

/-- A copy of a slot makes the landing slot read what the source slot reads. -/
theorem read_landed (B B' : Memref sig .tc .vmem S4x64x1024 .bf16) (b : Fin 4) (fs : B.view.ty.Contents (Elt F)) (fd : B'.view.ty.Contents (Elt F)) :
    (B'.access (slotR b)).read (Elt F) ((slotM B' b).view.write (Elt F) fd ((slotM B b).view.read (Elt F) fs) Finset.univ)
      = (B.access (slotR b)).read (Elt F) fs := by
  funext x
  have h := View.read_write_reshape (v := B'.access (slotR b)) (Val := Elt F) (s' := S64x1024) squeezes_S1x64x1024_S64x1024.numel_eq fd ((slotM B b).view.read (Elt F) fs)
    ((Shape.reshapeEquiv squeezes_S1x64x1024_S64x1024.numel_eq).symm x)
  rw [Equiv.apply_symm_apply] at h
  refine h.trans ?_
  show (B.access (slotR b)).read (Elt F) fs (Shape.reshapeEquiv squeezes_S1x64x1024_S64x1024.numel_eq ((Shape.reshapeEquiv squeezes_S1x64x1024_S64x1024.numel_eq).symm x)) = _
  rw [Equiv.apply_symm_apply]

/-- SEND the slot (a, b) to the family's peer: the source share and the peer's lent slot are given away, the send
    credit comes back. -/
theorem send_step {α : Type} {Q : α → sProp 𝕄} (a b : Fin 4) (n : ℕ) (hn : due n = .inr (a, b) :: due (n + 1)) {src dst : Memref sig .tc .vmem S64x1024 .bf16} {sS sR : DmaSem sig} {d : Dev nD}
    (hsrc : src = slotM (sbuf a) b) (hdst : dst = slotM (lbuf a) b) (hsS : sS = dsem (false, a, b)) (hsR : sR = dsem (true, a, b))
    (hd : d = peer a c) {hsc : dst.view.ref.isScScratch = false} {h1 : src.view.WordExact} {h2 : dst.view.WordExact}
    {h3 : DmaTarget.Typed .vmem (SemLoc.dma sR) (.remote (Dev.tc d) dst (.dma sS) hsc)}
    {k : PUnit → Prog (TpuEff nD τ sig (Elt F) Λ₀ .tc) α} :
    iprop(recs X Y K ∗ ow c (due n) ∗ sendKit (F := F) c a b ∗ slotPts (sq a) (sbuf a) c b (outV X Y a c b)
        ∗ ready (F := F) a (peer a c) b
        ∗ ((ow c (due (n + 1)) ∗ flying (F := F) c a b) -∗ wp frame (wpE (defs₀ (F := F)) 𝒱₀ c none) Set.univ (k ⟨⟩) Q))
      ⊢ wp frame (wpE (defs₀ (F := F)) 𝒱₀ c none) Set.univ
          (.op (.enqueueDma src (.remote (Dev.tc d) dst (.dma sS) hsc) (.dma sR) h1 h2 h3) k) Q := by
  subst hsrc hdst hsS hsR hd
  rw [hn]
  unfold ow sendKit ready slotAny slotPts flying
  iintro ⟨#HR, ⟨%W, HO⟩, ⟨Ht, Hr, Ht', Hat⟩, ⟨%fs, %hfs, Hs⟩, ⟨⟨%v, %fd, -, Hd⟩, Hr'⟩, Hk⟩
  ihave #HI := (recs_d X Y K c (false, a, b)) $$ HR
  ihave #HI' := (recs_d X Y K (peer a c) (true, a, b)) $$ HR
  have e₁ : (slotM (sbuf a) b).view.set = ((sbuf a).access (slotR b)).set := View.set_reshape _ _
  have e₂ : (slotM (lbuf a) b).view.set = ((lbuf a).access (slotR b)).set := View.set_reshape _ _
  iapply (Rounds.wp_send_pointsTo 𝒱₀ ER (Rd X Y) (c : Thread nD τ) none (c' := (peer a c : Thread nD τ)) (src := slotM (sbuf a) b) (dst := slotM (lbuf a) b)
      (sS := .dma (dsem (false, a, b))) (sem := .dma (dsem (true, a, b))) (q := sq a) (fs := fs) (κ₁ := K (sendCell c a b)) (κ₂ := K (recvCell (peer a c) a b))
      (r₁ := 0) (r₂ := 0) (d₁ := 0) (d₂ := 0) (fd := fd)
      (by rw [duties_d]; exact Finset.mem_singleton_self _) (by rw [duties_d]; exact Finset.mem_singleton_self _)
      () () N (credit_l a b) rfl rfl (owing c (due (n + 1))) rfl (W := W)
      (by
        rw [payload_d, e₁]; unfold dpay slotPts
        iintro H; iexists fs; isplitr; · ipureintro; exact hfs
        iexact H)
      (by
        rw [payload_d, e₂]; unfold dpay slotPts
        iintro H; iexists _; isplitr
        rotate_left
        · iexact H
        · ipureintro; rw [inV, peer_peer, ← hfs]; exact read_landed _ _ _ _ _)) $$ [Hs Hd HO Ht Hr Ht' Hr']
  · isplitr; · iexact HI
    isplitr; · iexact HI'
    isplitl [Hs]; · rw [e₁]; iexact Hs
    isplitl [Hd]; · rw [e₂]; iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists W; iexact HO
  isplitl [Hc]; · iexact Hc
  iexact Hat

/-- WAIT on one of the device's own DMA cells: its payload comes and the cell is closed. -/
theorem wait_step {α : Type} {Q : α → sProp 𝕄} (q : Bool × Fin 4 × Fin 4) (l : List Due) (hl : ∀ e ∈ l, semLv (.dma (dsem q)) < dueLv e)
    {src dst : Memref sig .tc .vmem S64x1024 .bf16} {s : DmaSem sig} (hs : s = dsem q) (hN : dst.view.dmaCredit = N)
    {h1 : src.view.WordExact} {h2 : dst.view.WordExact}
    {k : PUnit → Prog (TpuEff nD τ sig (Elt F) Λ₀ .tc) α} :
    iprop(recs X Y K ∗ levAts L lv ∗ ow c l ∗ cred (tallyAt (dcell c q) () N) ∗ atPos ER (dcell c q) 0 ∅ 0
        ∗ ((ow c l ∗ semVal (dcell c q) 0 ∗ dpay X Y c q) -∗ wp frame (wpE (defs₀ (F := F)) 𝒱₀ c none) Set.univ (k ⟨⟩) Q))
      ⊢ wp frame (wpE (defs₀ (F := F)) 𝒱₀ c none) Set.univ (.op (.waitDma2 s src dst h1 h2) k) Q := by
  subst hs
  unfold ow
  iintro ⟨#HR, #Hlev, ⟨%W, HO⟩, Hc, Hat, Hk⟩
  ihave #HI := (recs_d X Y K c q) $$ HR
  iapply (Rounds.wp_wait_rest_token 𝒱₀ ER (Rd X Y) (c : Thread nD τ) none (κ := K (dcell c q)) (k' := dst.view.dmaCredit)
      (wpE_waitDma2_eq 𝒱₀ (c : Thread nD τ) none Set.univ) (Set.mem_univ _) () (O := owing c l) (W := W) (R := 0) (m := 0) (T := ∅)
      ((Nat.zero_add _).trans (hN.trans (expect_d X Y c q).symm))) $$ [Hc HO Hat]
  · isplitr; · iexact HI
    isplitl [Hc]; · rw [hN]; iexact Hc
    isplitl [HO]; · iexact HO
    isplitr; · iapply (mayWait c (.dma (dsem q)) l hl); iexact Hlev
    iexact Hat
  iintro ⟨HO, Hat, -, Hp⟩
  ihave Hp := (Entails.of_eq (rest_d X Y c q)) $$ Hp
  imod (close_cell X Y K (dcell c q)) $$ [Hat] with Hz
  · isplitr; · iexact HI
    iexact Hat
  iapply Hk
  isplitl [HO]; · iexists _; iexact HO
  isplitl [Hz] <;> iassumption

/-- LOAD a slot under any share of it. -/
theorem slot_load {α : Type} {Q : α → sProp 𝕄} (q : PosShare TreeShare) (B : Memref sig .tc .vmem S4x64x1024 .bf16) (b : Fin 4) (v : Vec F S1x64x1024 .bf16)
    {m : Memref sig .tc .vmem S4x64x1024 .bf16} (hm : m = B) {off : Fin 3 → ℕ} {inb : ∀ a, off a + S1x64x1024.size a ≤ S4x64x1024.size a}
    (ho : off = ![b.val, 0, 0]) {hl : m.view.LoadsAt (Rect.unit (s := S4x64x1024) off S1x64x1024.size inb)}
    {k : Vec F S1x64x1024 .bf16 → Prog (TpuEff nD τ sig (Elt F) Λ₀ .tc) α} :
    iprop(slotPts q B c b v ∗ (slotPts q B c b v -∗ wp frame (wpE (defs₀ (F := F)) 𝒱₀ c none) Set.univ (k v) Q))
      ⊢ wp frame (wpE (defs₀ (F := F)) 𝒱₀ c none) Set.univ
          (.op (.load m (Rect.unit (s := S4x64x1024) off S1x64x1024.size inb).toLoadRect hl) k) Q := by
  subst hm ho
  unfold slotPts
  iintro ⟨⟨%f, %hf, H⟩, Hk⟩
  subst hf
  iapply (wp_load_rect 𝒱₀ (c : Thread nD τ) none Set.univ (m := m) (r := slotR b) (hl := hl) (k := k) (q := q) (f := f) (S := (m.access (slotR b)).set) subset_rfl) $$ H
  iintro H
  iapply Hk
  iexists f
  isplitr; · ipureintro; rfl
  iexact H

/-- LOAD a slot whose contents nobody knows. -/
theorem any_load {α : Type} {Q : α → sProp 𝕄} (B : Memref sig .tc .vmem S4x64x1024 .bf16) (b : Fin 4)
    {m : Memref sig .tc .vmem S4x64x1024 .bf16} (hm : m = B) {off : Fin 3 → ℕ} {inb : ∀ a, off a + S1x64x1024.size a ≤ S4x64x1024.size a}
    (ho : off = ![b.val, 0, 0]) {hl : m.view.LoadsAt (Rect.unit (s := S4x64x1024) off S1x64x1024.size inb)}
    {k : Vec F S1x64x1024 .bf16 → Prog (TpuEff nD τ sig (Elt F) Λ₀ .tc) α} :
    iprop(slotAny (F := F) B c b ∗ (∀ v, slotAny (F := F) B c b -∗ wp frame (wpE (defs₀ (F := F)) 𝒱₀ c none) Set.univ (k v) Q))
      ⊢ wp frame (wpE (defs₀ (F := F)) 𝒱₀ c none) Set.univ
          (.op (.load m (Rect.unit (s := S4x64x1024) off S1x64x1024.size inb).toLoadRect hl) k) Q := by
  unfold slotAny
  iintro ⟨⟨%v, H⟩, Hk⟩
  iapply (slot_load c fullShare B b v hm ho)
  isplitl [H]; · iexact H
  iintro H
  iapply Hk $$ %v
  iexists v; iexact H

/-- STORE a whole slot. -/
theorem slot_store {α : Type} {Q : α → sProp 𝕄} (B : Memref sig .tc .vmem S4x64x1024 .bf16) (b : Fin 4) (v : Vec F S1x64x1024 .bf16)
    {m : Memref sig .tc .vmem S4x64x1024 .bf16} (hB : m = B) {off : Fin 3 → ℕ} {inb : ∀ a, off a + S1x64x1024.size a ≤ S4x64x1024.size a}
    (ho : off = ![b.val, 0, 0]) {w : Vec F S1x64x1024 .bf16} (hw : w = v)
    {hx : (m.access (Rect.unit (s := S4x64x1024) off S1x64x1024.size inb)).Stores Finset.univ}
    {hm : Finset.univ = Finset.univ ∨ ∀ a, (Rect.unit (s := S4x64x1024) off S1x64x1024.size inb).stride a = 1}
    {k : PUnit → Prog (TpuEff nD τ sig (Elt F) Λ₀ .tc) α} :
    iprop(slotAny B c b ∗ (slotPts fullShare B c b v -∗ wp frame (wpE (defs₀ (F := F)) 𝒱₀ c none) Set.univ (k ⟨⟩) Q))
      ⊢ wp frame (wpE (defs₀ (F := F)) 𝒱₀ c none) Set.univ
          (.op (.store m (Rect.unit (s := S4x64x1024) off S1x64x1024.size inb) w Finset.univ hx hm) k) Q := by
  subst hB ho hw
  unfold slotAny slotPts
  iintro ⟨⟨%v, %f, -, H⟩, Hk⟩
  iapply (wp_store 𝒱₀ (c : Thread nD τ) none Set.univ (m := m) (r := slotR b) (w := w) (Mk := Finset.univ) (hx := hx) (hm := hm) (k := k) (f := f)
    (S := (m.access (slotR b)).set) (by rw [View.setOn_univ])) $$ H
  iintro H
  iapply Hk
  iexists _
  isplitr
  rotate_left
  · iexact H
  · ipureintro
    funext x
    exact View.read_write_of_mem _ _ (Finset.mem_univ x)

/-- WAIT for a slot of the first family: it is split, two shares for the two copies that forward it and one kept. -/
theorem recv0_step {α : Type} {Q : α → sProp 𝕄} (b : Fin 4) (n : ℕ) (hl : ∀ e ∈ due n, semLv (.dma (dsem (true, 0, b))) < dueLv e)
    {src dst : Memref sig .tc .vmem S64x1024 .bf16} {s : DmaSem sig} (hs : s = dsem (true, 0, b)) (hN : dst.view.dmaCredit = N)
    {h1 : src.view.WordExact} {h2 : dst.view.WordExact} {k : PUnit → Prog (TpuEff nD τ sig (Elt F) Λ₀ .tc) α} :
    iprop(recs X Y K ∗ levAts L lv ∗ ow c (due n) ∗ recvKit (F := F) c 0 b
        ∗ ((ow c (due n) ∗ shut (F := F) c (true, 0, b) ∗ slotPts (sq 1) (sbuf 1) c b (outV X Y 1 c b) ∗ slotPts (sq 2) (sbuf 2) c b (outV X Y 2 c b)
              ∗ slotPts fullShare.right.right (lbuf 0) c b (inV X Y 0 c b))
            -∗ wp frame (wpE (defs₀ (F := F)) 𝒱₀ c none) Set.univ (k ⟨⟩) Q))
      ⊢ wp frame (wpE (defs₀ (F := F)) 𝒱₀ c none) Set.univ (.op (.waitDma2 s src dst h1 h2) k) Q := by
  unfold recvKit shut
  iintro ⟨#HR, #Hl, HO, ⟨Hc, Ha⟩, Hk⟩
  iapply (wait_step X Y K c (true, 0, b) (due n) hl hs hN)
  isplitr; · iexact HR
  isplitr; · iexact Hl
  isplitl [HO]; · iexact HO
  isplitl [Hc]; · iexact Hc
  isplitl [Ha]; · iexact Ha
  iintro ⟨HO, Hz, Hp⟩
  ihave Hp := (dpay_recv X Y c 0 b) $$ Hp
  iapply Hk
  isplitl [HO]; · iexact HO
  isplitl [Hz]; · iexact Hz
  iapply (split_x X Y c b); iexact Hp

/-- WAIT for a slot of the second family: it is split, one share for the copy that forwards it and one kept. -/
theorem recv1_step {α : Type} {Q : α → sProp 𝕄} (b : Fin 4) (n : ℕ) (hl : ∀ e ∈ due n, semLv (.dma (dsem (true, 1, b))) < dueLv e)
    {src dst : Memref sig .tc .vmem S64x1024 .bf16} {s : DmaSem sig} (hs : s = dsem (true, 1, b)) (hN : dst.view.dmaCredit = N)
    {h1 : src.view.WordExact} {h2 : dst.view.WordExact} {k : PUnit → Prog (TpuEff nD τ sig (Elt F) Λ₀ .tc) α} :
    iprop(recs X Y K ∗ levAts L lv ∗ ow c (due n) ∗ recvKit (F := F) c 1 b
        ∗ ((ow c (due n) ∗ shut (F := F) c (true, 1, b) ∗ slotPts (sq 3) (sbuf 3) c b (outV X Y 3 c b) ∗ slotPts fullShare.right (lbuf 1) c b (inV X Y 1 c b))
            -∗ wp frame (wpE (defs₀ (F := F)) 𝒱₀ c none) Set.univ (k ⟨⟩) Q))
      ⊢ wp frame (wpE (defs₀ (F := F)) 𝒱₀ c none) Set.univ (.op (.waitDma2 s src dst h1 h2) k) Q := by
  unfold recvKit shut
  iintro ⟨#HR, #Hl, HO, ⟨Hc, Ha⟩, Hk⟩
  iapply (wait_step X Y K c (true, 1, b) (due n) hl hs hN)
  isplitr; · iexact HR
  isplitr; · iexact Hl
  isplitl [HO]; · iexact HO
  isplitl [Hc]; · iexact Hc
  isplitl [Ha]; · iexact Ha
  iintro ⟨HO, Hz, Hp⟩
  ihave Hp := (dpay_recv X Y c 1 b) $$ Hp
  iapply Hk
  isplitl [HO]; · iexact HO
  isplitl [Hz]; · iexact Hz
  iapply (split_z X Y c b); iexact Hp

/-- WAIT for a slot of one of the last two families, which nobody forwards. -/
theorem recv_step {α : Type} {Q : α → sProp 𝕄} (a b : Fin 4) (n : ℕ) (hl : ∀ e ∈ due n, semLv (.dma (dsem (true, a, b))) < dueLv e)
    {src dst : Memref sig .tc .vmem S64x1024 .bf16} {s : DmaSem sig} (hs : s = dsem (true, a, b)) (hN : dst.view.dmaCredit = N)
    {h1 : src.view.WordExact} {h2 : dst.view.WordExact} {k : PUnit → Prog (TpuEff nD τ sig (Elt F) Λ₀ .tc) α} :
    iprop(recs X Y K ∗ levAts L lv ∗ ow c (due n) ∗ recvKit (F := F) c a b
        ∗ ((ow c (due n) ∗ shut (F := F) c (true, a, b) ∗ slotPts fullShare (lbuf a) c b (inV X Y a c b))
            -∗ wp frame (wpE (defs₀ (F := F)) 𝒱₀ c none) Set.univ (k ⟨⟩) Q))
      ⊢ wp frame (wpE (defs₀ (F := F)) 𝒱₀ c none) Set.univ (.op (.waitDma2 s src dst h1 h2) k) Q := by
  unfold recvKit shut
  iintro ⟨#HR, #Hl, HO, ⟨Hc, Ha⟩, Hk⟩
  iapply (wait_step X Y K c (true, a, b) (due n) hl hs hN)
  isplitr; · iexact HR
  isplitr; · iexact Hl
  isplitl [HO]; · iexact HO
  isplitl [Hc]; · iexact Hc
  isplitl [Ha]; · iexact Ha
  iintro ⟨HO, Hz, Hp⟩
  ihave Hp := (dpay_recv X Y c a b) $$ Hp
  iapply Hk
  isplitl [HO]; · iexact HO
  isplitl [Hz]; · iexact Hz
  iexact Hp

/-- WAIT for a copy this device sent, after all its payments: the share of the source comes back. -/
theorem sent_step {α : Type} {Q : α → sProp 𝕄} (a b : Fin 4)
    {src dst : Memref sig .tc .vmem S64x1024 .bf16} {s : DmaSem sig} (hs : s = dsem (false, a, b)) (hN : dst.view.dmaCredit = N)
    {h1 : src.view.WordExact} {h2 : dst.view.WordExact} {k : PUnit → Prog (TpuEff nD τ sig (Elt F) Λ₀ .tc) α} :
    iprop(recs X Y K ∗ levAts L lv ∗ ow c (due 19) ∗ flying (F := F) c a b
        ∗ ((ow c (due 19) ∗ shut (F := F) c (false, a, b) ∗ slotPts (sq a) (sbuf a) c b (outV X Y a c b))
            -∗ wp frame (wpE (defs₀ (F := F)) 𝒱₀ c none) Set.univ (k ⟨⟩) Q))
      ⊢ wp frame (wpE (defs₀ (F := F)) 𝒱₀ c none) Set.univ (.op (.waitDma2 s src dst h1 h2) k) Q := by
  unfold flying shut
  iintro ⟨#HR, #Hl, HO, ⟨Hc, Ha⟩, Hk⟩
  iapply (wait_step X Y K c (false, a, b) (due 19) (fun e he => absurd he List.not_mem_nil) hs hN)
  isplitr; · iexact HR
  isplitr; · iexact Hl
  isplitl [HO]; · iexact HO
  isplitl [Hc]; · iexact Hc
  isplitl [Ha]; · iexact Ha
  iintro ⟨HO, Hz, Hp⟩
  ihave Hp := (dpay_sent X Y c a b) $$ Hp
  iapply Hk
  isplitl [HO]; · iexact HO
  isplitl [Hz]; · iexact Hz
  iexact Hp

/-- The whole of a window's buffer. -/
def winP (m : Ref sig .tc) (c : Dev nD) (f : m.ty.Contents (Elt F)) : sProp 𝕄 := ((c : Thread nD τ).loc m) ↦{fullShare} (f : Buf (Elt F) ((c : Thread nD τ).loc m))

/-- LOAD from the first operand. -/
theorem x_load {α : Type} {Q : α → sProp 𝕄} {r : Rect S4x512x512} {hl : xM.view.LoadsAt r} {k : Vec F r.shape .f32 → Prog (TpuEff nD τ sig (Elt F) Λ₀ .tc) α} :
    iprop(winP cc0_stg0_0 c (X c) ∗ (winP cc0_stg0_0 c (X c) -∗ wp frame (wpE (defs₀ (F := F)) 𝒱₀ c none) Set.univ (k ((xM.access r).read (Elt F) (X c))) Q))
      ⊢ wp frame (wpE (defs₀ (F := F)) 𝒱₀ c none) Set.univ (.op (.load xM r.toLoadRect hl) k) Q := by
  unfold winP
  iintro ⟨H, Hk⟩
  iapply (wp_load_rect 𝒱₀ (c : Thread nD τ) none Set.univ (m := xM) (r := r) (hl := hl) (k := k) (Finset.subset_univ _)) $$ H
  iexact Hk

/-- LOAD the second operand. -/
theorem y_load {α : Type} {Q : α → sProp 𝕄} {hl : yM.view.LoadsAt (Rect.unit (s := S512x1024) ![0, 0] S512x1024.size inb_S512x1024_S512x1024_0_0)}
    {k : Vec F S512x1024 .f32 → Prog (TpuEff nD τ sig (Elt F) Λ₀ .tc) α} :
    iprop(winP cc0_stg1_0 c (Y c) ∗ (winP cc0_stg1_0 c (Y c) -∗ wp frame (wpE (defs₀ (F := F)) 𝒱₀ c none) Set.univ (k (yV Y c)) Q))
      ⊢ wp frame (wpE (defs₀ (F := F)) 𝒱₀ c none) Set.univ
          (.op (.load yM (Rect.unit (s := S512x1024) ![0, 0] S512x1024.size inb_S512x1024_S512x1024_0_0).toLoadRect hl) k) Q := by
  unfold winP
  iintro ⟨H, Hk⟩
  iapply (wp_load_rect 𝒱₀ (c : Thread nD τ) none Set.univ (m := yM)
    (r := Rect.unit (s := S512x1024) ![0, 0] S512x1024.size inb_S512x1024_S512x1024_0_0) (hl := hl) (k := k) (Finset.subset_univ _)) $$ H
  iexact Hk

/-- LOAD from the result. -/
theorem o_load {α : Type} {Q : α → sProp 𝕄} {f : (cc0_stg2_0 : Ref sig .tc).ty.Contents (Elt F)} {r : Rect S4x256x1024} {hl : oM.view.LoadsAt r}
    {k : Vec F r.shape .f32 → Prog (TpuEff nD τ sig (Elt F) Λ₀ .tc) α} :
    iprop(winP cc0_stg2_0 c f ∗ (winP cc0_stg2_0 c f -∗ wp frame (wpE (defs₀ (F := F)) 𝒱₀ c none) Set.univ (k ((oM.access r).read (Elt F) f)) Q))
      ⊢ wp frame (wpE (defs₀ (F := F)) 𝒱₀ c none) Set.univ (.op (.load oM r.toLoadRect hl) k) Q := by
  unfold winP
  iintro ⟨H, Hk⟩
  iapply (wp_load_rect 𝒱₀ (c : Thread nD τ) none Set.univ (m := oM) (r := r) (hl := hl) (k := k) (Finset.subset_univ _)) $$ H
  iexact Hk

/-- The result after `w` is stored over the rectangle `r`. -/
abbrev put (f : (cc0_stg2_0 : Ref sig .tc).ty.Contents (Elt F)) (r : Rect S4x256x1024) (w : Vec F r.shape .f32) : (cc0_stg2_0 : Ref sig .tc).ty.Contents (Elt F) :=
  (oM.access r).write (Elt F) f w Finset.univ

/-- STORE into the result. -/
theorem o_store {α : Type} {Q : α → sProp 𝕄} (g : (cc0_stg2_0 : Ref sig .tc).ty.Contents (Elt F)) {f : (cc0_stg2_0 : Ref sig .tc).ty.Contents (Elt F)} {r : Rect S4x256x1024} {w : Vec F r.shape .f32} (hg : put f r w = g)
    {hx : (oM.access r).Stores Finset.univ} {hm : Finset.univ = Finset.univ ∨ ∀ a, r.stride a = 1} {k : PUnit → Prog (TpuEff nD τ sig (Elt F) Λ₀ .tc) α} :
    iprop(winP cc0_stg2_0 c f ∗ (winP cc0_stg2_0 c g -∗ wp frame (wpE (defs₀ (F := F)) 𝒱₀ c none) Set.univ (k ⟨⟩) Q))
      ⊢ wp frame (wpE (defs₀ (F := F)) 𝒱₀ c none) Set.univ (.op (.store oM r w Finset.univ hx hm) k) Q := by
  subst hg
  unfold winP
  iintro ⟨H, Hk⟩
  iapply (wp_store 𝒱₀ (c : Thread nD τ) none Set.univ (m := oM) (r := r) (w := w) (Mk := Finset.univ) (hx := hx) (hm := hm) (k := k) (f := f)
    (Finset.subset_univ _)) $$ H
  iexact Hk

end Steps

end Cert.KernelIdeal.Proto

end
-- ==== Proof.KernelIdeal.Out.lean ====
/-
  What the body leaves in the result block: four stores of the device's own products, which cover the block, then sixteen
  additions, one per family and slot, each over its own quarter of the rows of one batch.
-/
module

public import proofs.«01_k».proof.Proof.KernelIdeal.Steps
public import Idealize.ShloMosaic.Lib.WritesUnit

@[expose] public section

noncomputable section

namespace Cert.KernelIdeal.Proto

open Idealize.ShloMosaic Idealize.ShloMosaic.TcCoe
open Cert.KernelIdeal.Gen

variable {F : FTy → Type} [FloatOps F] (X : XT F) (Y : YT F)

/-- The result block's contents. -/
abbrev OT (F : FTy → Type) : Type := (cc0_stg2_0 : Ref sig .tc).ty.Contents (Elt F)

/-- Where the slot b of family a is added: the rows of the quarter it belongs to, in batch b. -/
def qO (c : Dev nD) (a b : Fin 4) : Fin 3 → ℕ :=
  match a, b with
  | 0, 0 => k0_off9 c | 0, 1 => k0_off10 c | 0, 2 => k0_off11 c | 0, 3 => k0_off12 c
  | 1, 0 => k0_off13 c | 1, 1 => k0_off14 c | 1, 2 => k0_off15 c | 1, 3 => k0_off16 c
  | 2, 0 => k0_off17 c | 2, 1 => k0_off18 c | 2, 2 => k0_off19 c | 2, 3 => k0_off20 c
  | 3, 0 => k0_off21 c | 3, 1 => k0_off22 c | 3, 2 => k0_off23 c | 3, 3 => k0_off24 c
theorem qO_inb (c : Dev nD) (a b : Fin 4) : ∀ i, qO c a b i + S1x64x1024.size i ≤ S4x256x1024.size i :=
  match a, b with
  | 0, 0 => k0_off9_inb c | 0, 1 => k0_off10_inb c | 0, 2 => k0_off11_inb c | 0, 3 => k0_off12_inb c
  | 1, 0 => k0_off13_inb c | 1, 1 => k0_off14_inb c | 1, 2 => k0_off15_inb c | 1, 3 => k0_off16_inb c
  | 2, 0 => k0_off17_inb c | 2, 1 => k0_off18_inb c | 2, 2 => k0_off19_inb c | 2, 3 => k0_off20_inb c
  | 3, 0 => k0_off21_inb c | 3, 1 => k0_off22_inb c | 3, 2 => k0_off23_inb c | 3, 3 => k0_off24_inb c
abbrev qR (c : Dev nD) (a b : Fin 4) : Rect S4x256x1024 := Rect.unit (s := S4x256x1024) (qO c a b) S1x64x1024.size (qO_inb c a b)

/-- One addition: what is read there plus what arrived. -/
def addV (old : Vec F S1x64x1024 .f32) (v : Vec F S1x64x1024 .bf16) : Vec F S1x64x1024 .f32 := k0_pay10 old v

/-- The block after the slot b of family a has been added. -/
def acc (c : Dev nD) (f : OT F) (a b : Fin 4) : OT F :=
  put f (qR c a b) (addV ((oM.access (qR c a b)).read (Elt F) f) (inV X Y a c b))

/-- Batch b of the block. -/
abbrev oR (b : Fin 4) : Rect S4x256x1024 :=
  Rect.unit (s := S4x256x1024) ![b.val, 0, 0] S1x256x1024.size (by revert b; decide)

/-- The device's own product for batch b. -/
def own (c : Dev nD) (b : Fin 4) : Vec F S1x256x1024 .f32 :=
  match b with
  | 0 => k0_pay7 ((xM.access (Rect.unit (s := S4x512x512) (k0_off5 c) S1x256x512.size (k0_off5_inb c))).read (Elt F) (X c)) (yV Y c)
  | 1 => k0_pay7 ((xM.access (Rect.unit (s := S4x512x512) (k0_off6 c) S1x256x512.size (k0_off6_inb c))).read (Elt F) (X c)) (yV Y c)
  | 2 => k0_pay8 ((xM.access (Rect.unit (s := S4x512x512) (k0_off7 c) S1x256x512.size (k0_off7_inb c))).read (Elt F) (X c)) (yV Y c)
  | 3 => k0_pay9 ((xM.access (Rect.unit (s := S4x512x512) (k0_off8 c) S1x256x512.size (k0_off8_inb c))).read (Elt F) (X c)) (yV Y c)

/-- The block after the own product of batch b is stored. -/
def putOwn (c : Dev nD) (f : OT F) (b : Fin 4) : OT F := put f (oR b) (own X Y c b)

/-- The block after the four own products, from contents `f`. -/
def base (c : Dev nD) (f : OT F) : OT F := putOwn X Y c (putOwn X Y c (putOwn X Y c (putOwn X Y c f 0) 1) 2) 3

/-- All sixteen additions, in program order. -/
def added (c : Dev nD) (f : OT F) : OT F :=
  let g (f : OT F) (a : Fin 4) : OT F := acc X Y c (acc X Y c (acc X Y c (acc X Y c f a 0) a 1) a 2) a 3
  g (g (g (g f 0) 1) 2) 3

/-- An element after a store over a box: the stored value inside the box, the old one outside. -/
theorem put_apply (f : OT F) {off off' size : Fin 3 → ℕ} (inb : ∀ a, off a + size a ≤ S4x256x1024.size a) (h : off = off')
    (w : Vec F (Rect.unit (s := S4x256x1024) off size inb).shape .f32) (i : S4x256x1024.Idx) :
    put f (Rect.unit (s := S4x256x1024) off size inb) w i
      = if hi : ∀ a, off' a ≤ (i a).val ∧ (i a).val < off' a + size a then w (Rect.unitLocal (s := S4x256x1024) (off := off') (size := size) i hi) else f i :=
  View.read_writes_cons_unit (Val := Elt F) oM.view f inb w [] i h

/-- The four own products cover the block: what was there before does not matter. -/
theorem base_indep (c : Dev nD) (f g : OT F) : base X Y c f = base X Y c g := by
  funext i
  unfold base putOwn
  rw [put_apply _ _ rfl, put_apply _ _ rfl, put_apply _ _ rfl, put_apply _ _ rfl, put_apply _ _ rfl, put_apply _ _ rfl, put_apply _ _ rfl,
    put_apply _ _ rfl]
  split_ifs with h3 h2 h1 h0 <;> try rfl
  exfalso
  have hi0 : (i 0).val < 4 := (i 0).isLt
  have hi1 : (i 1).val < 256 := (i 1).isLt
  have hi2 : (i 2).val < 1024 := (i 2).isLt
  have key : ∀ b : Fin 4, (i 0).val = b.val → ∀ a : Fin 3, (![b.val, 0, 0] : Fin 3 → ℕ) a ≤ (i a).val ∧ (i a).val < (![b.val, 0, 0] : Fin 3 → ℕ) a + S1x256x1024.size a := by
    intro b hb a
    fin_cases a
    · exact ⟨hb.ge, by show (i 0).val < b.val + 1; omega⟩
    · exact ⟨Nat.zero_le _, by show (i 1).val < 0 + 256; omega⟩
    · exact ⟨Nat.zero_le _, by show (i 2).val < 0 + 1024; omega⟩
  have : (i 0).val = 0 ∨ (i 0).val = 1 ∨ (i 0).val = 2 ∨ (i 0).val = 3 := by omega
  rcases this with h | h | h | h
  · exact h0 (key 0 h)
  · exact h1 (key 1 h)
  · exact h2 (key 2 h)
  · exact h3 (key 3 h)

/-- What the body leaves in the result block. -/
def outC (c : Dev nD) : OT F := added X Y c (base X Y c (constant S4x256x1024 .f32 0#32))

attribute [irreducible] outC

end Cert.KernelIdeal.Proto

end
-- ==== Proof.KernelIdeal.Body.lean ====
/-
  The run of the body at a symbolic device, part by part as the program is printed.
-/
module

public import proofs.«01_k».proof.Proof.KernelIdeal.Out

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : XT F) (Y : YT F) (K : GSem nD τ sig → ℕ) (c : Dev nD)

/-- The own landing slots are what the first peer's barrier duty is paid with. -/
theorem pay_0 : lend (F := F) 0 c ⊢ barPay (F := F) (peer (0 : Fin 3).castSucc c) 0 := by
  show lend (F := F) 0 c ⊢ lend (F := F) 0 (px (px c))
  rw [px_px]
theorem pay_1 : lend (F := F) 1 c ⊢ barPay (F := F) (peer (1 : Fin 3).castSucc c) 1 := by
  show lend (F := F) 1 c ⊢ lend (F := F) 1 (pz (pz c))
  rw [pz_pz]
theorem pay_2 : iprop(lend (F := F) 2 c ∗ lend (F := F) 3 c) ⊢ barPay (F := F) (peer (2 : Fin 3).castSucc c) 2 := by
  show iprop(lend (F := F) 2 c ∗ lend (F := F) 3 c) ⊢ iprop(lend (F := F) 2 (ny (ny c)) ∗ lend (F := F) 3 (ny (ny c)))
  rw [ny_ny]

/-- Part 1 of the body. -/
theorem part1 {Kt : _ → sProp 𝕄} :
    iprop(recs X Y K ∗ levAts L lv ∗ ow (F := F) c (due 0) ∗ barTok (F := F) c 0 ∗ lend (F := F) 0 c
        ∗ (∀ (v2 : BitVec 32), ∀ (v5 : BitVec 32), ∀ (v8 : BitVec 32), ∀ (v10 : BitVec 32), ∀ (v13 : BitVec 32), ∀ (v14 : BitVec 32), ∀ (v16 : BitVec 32), ∀ (v19 : BitVec 32), ∀ (v22 : BitVec 32), ∀ (v26 : BitVec 32),  ow (F := F) c (due 1) -∗ Kt ⟨c, v2, v5, v8, v10, v13, v14, v16, v19, v22, v26, SemArray.scalar (sig.barrier 0 rfl)⟩))
      ⊢ wp frame (wpE (defs₀ (F := F)) 𝒱₀ c none) Set.univ
          (k0_part1 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  rw [k0_part1_eq_skeleton]; unfold k0_part1_skel
  simp only [semSignalWord, semWaitWord, Prog.lift, Prog.bind_op, Prog.bind_ret, Prog.pure_eq_ret, wp_deviceId]
  iintro ⟨#HR, #Hl, how, hbt0, hlend0, Hk⟩
  iapply (signal_step X Y K c 0 0 rfl (dst := ⟨k0_dev1 c, k0_dev1_lt c⟩) rfl)
  isplitr; · iexact HR
  isplitl [how]; · iexact how
  isplitl [hbt0]; · iexact hbt0
  isplitl [hlend0]
  · iapply (pay_0 (F := F) c); iexact hlend0
  iintro how
  rw [wp_ret]; imodintro; iapply Hk
  iexact how

/-- Part 2 of the body. -/
theorem part2 (v2 v5 v8 v13 v14 v16 : BitVec 32) {Kt : _ → sProp 𝕄} :
    iprop(recs X Y K ∗ levAts L lv ∗ ow (F := F) c (due 1)
        ∗ barTok (F := F) c 1
        ∗ lend (F := F) 1 c
        ∗ barTok (F := F) c 2
        ∗ lend (F := F) 2 c
        ∗ lend (F := F) 3 c
        ∗ cred (tallyAt (barCell c) () 3)
        ∗ atPos ER (barCell c) 0 ∅ 0
        ∗ winP cc0_stg0_0 c (X c)
        ∗ winP cc0_stg1_0 c (Y c)
        ∗ slotAny (F := F) (sbuf 0) c 0
        ∗ (∀ (w1 : BitVec 32), ∀ (w2 : BitVec 32), ∀ (w3 : BitVec 32), (ow (F := F) c (due 3)
            ∗ semVal (barCell c) 0
            ∗ lend (F := F) 0 (px c)
            ∗ lend (F := F) 1 (pz c)
            ∗ lend (F := F) 2 (ny c)
            ∗ lend (F := F) 3 (ny c)
            ∗ winP cc0_stg0_0 c (X c)
            ∗ winP cc0_stg1_0 c (Y c)
            ∗ slotPts (sq 0) (sbuf 0) c 0 (outV X Y 0 c 0)) -∗ Kt ⟨w1, w2, w3⟩))
      ⊢ wp frame (wpE (defs₀ (F := F)) 𝒱₀ c none) Set.univ
          (k0_part2 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14 v16 (SemArray.scalar (sig.barrier 0 rfl))) Kt := by
  rw [k0_part2_eq_skeleton]; unfold k0_part2_skel
  simp only [semSignalWord, semWaitWord, Prog.lift, Prog.bind_op, Prog.bind_ret, Prog.pure_eq_ret]
  iintro ⟨#HR, #Hl, how, hbt1, hlend1, hbt2, hlend2, hlend3, hbarcred, hbaratpos, hx, hy, hany0, Hk⟩
  iapply (signal_step X Y K c 1 1 rfl (dst := ⟨k0_dev2 c, k0_dev2_lt c⟩) rfl)
  isplitr; · iexact HR
  isplitl [how]; · iexact how
  isplitl [hbt1]; · iexact hbt1
  isplitl [hlend1]
  · iapply (pay_1 (F := F) c); iexact hlend1
  iintro how
  iapply (signal_step X Y K c 2 2 rfl (dst := ⟨k0_dev3 c, k0_dev3_lt c⟩) rfl)
  isplitr; · iexact HR
  isplitl [how]; · iexact how
  isplitl [hbt2]; · iexact hbt2
  isplitl [hlend2 hlend3]
  · iapply (pay_2 (F := F) c); isplitl [hlend2] <;> iassumption
  iintro how
  iapply (barrier_step X Y K c (due 3) (by decide))
  isplitr; · iexact HR
  isplitr; · iexact Hl
  isplitl [how]; · iexact how
  isplitl [hbarcred]; · iexact hbarcred
  isplitl [hbaratpos]; · iexact hbaratpos
  iintro ⟨how, hbarshut, hlendp0, hlendp1, hlendp2, hlendp3⟩
  iapply (x_load X c)
  isplitl [hx]; · iexact hx
  iintro hx
  iapply (y_load Y c)
  isplitl [hy]; · iexact hy
  iintro hy
  iapply (any_load c (sbuf 0) 0 rfl rfl)
  isplitl [hany0]; · iexact hany0
  iintro %v hany0
  iapply (slot_store c (sbuf 0) 0 (outV X Y 0 c 0) rfl rfl rfl)
  isplitl [hany0]; · iexact hany0
  iintro hsrc00
  rw [wp_ret]; imodintro; iapply Hk
  isplitl [how]; · iexact how
  isplitl [hbarshut]; · iexact hbarshut
  isplitl [hlendp0]; · iexact hlendp0
  isplitl [hlendp1]; · iexact hlendp1
  isplitl [hlendp2]; · iexact hlendp2
  isplitl [hlendp3]; · iexact hlendp3
  isplitl [hx]; · iexact hx
  isplitl [hy]; · iexact hy
  iexact hsrc00

/-- Part 3 of the body. -/
theorem part3 (v5 v8 v10 v16 v47 c8_i32_41 : BitVec 32) {Kt : _ → sProp 𝕄} :
    iprop(recs X Y K ∗ levAts L lv ∗ ow (F := F) c (due 3)
        ∗ sendKit (F := F) c 0 0
        ∗ slotPts (sq 0) (sbuf 0) c 0 (outV X Y 0 c 0)
        ∗ ready (F := F) 0 (peer 0 c) 0
        ∗ winP cc0_stg0_0 c (X c)
        ∗ winP cc0_stg1_0 c (Y c)
        ∗ slotAny (F := F) (sbuf 0) c 1
        ∗ ((ow (F := F) c (due 4)
            ∗ flying (F := F) c 0 0
            ∗ winP cc0_stg0_0 c (X c)
            ∗ winP cc0_stg1_0 c (Y c)
            ∗ slotPts (sq 0) (sbuf 0) c 1 (outV X Y 0 c 1)) -∗ Kt ⟨⟩))
      ⊢ wp frame (wpE (defs₀ (F := F)) 𝒱₀ c none) Set.univ
          (k0_part3 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v5 v8 v10 v16 v47 c8_i32_41) Kt := by
  rw [k0_part3_eq_skeleton]; unfold k0_part3_skel
  simp only [semSignalWord, semWaitWord, Prog.lift, Prog.bind_op, Prog.bind_ret, Prog.pure_eq_ret]
  iintro ⟨#HR, #Hl, how, hsk00, hsrc00, hrdy00, hx, hy, hany1, Hk⟩
  iapply (send_step X Y K c 0 0 3 rfl rfl rfl rfl rfl (dev4_eq c))
  isplitr; · iexact HR
  isplitl [how]; · iexact how
  isplitl [hsk00]; · iexact hsk00
  isplitl [hsrc00]; · iexact hsrc00
  isplitl [hrdy00]; · iexact hrdy00
  iintro ⟨how, hfly00⟩
  iapply (x_load X c)
  isplitl [hx]; · iexact hx
  iintro hx
  iapply (y_load Y c)
  isplitl [hy]; · iexact hy
  iintro hy
  iapply (any_load c (sbuf 0) 1 rfl rfl)
  isplitl [hany1]; · iexact hany1
  iintro %v hany1
  iapply (slot_store c (sbuf 0) 1 (outV X Y 0 c 1) rfl rfl rfl)
  isplitl [hany1]; · iexact hany1
  iintro hsrc01
  rw [wp_ret]; imodintro; iapply Hk
  isplitl [how]; · iexact how
  isplitl [hfly00]; · iexact hfly00
  isplitl [hx]; · iexact hx
  isplitl [hy]; · iexact hy
  iexact hsrc01

/-- Part 4 of the body. -/
theorem part4 (v5 v8 v10 v16 v47 : BitVec 32) {Kt : _ → sProp 𝕄} :
    iprop(recs X Y K ∗ levAts L lv ∗ ow (F := F) c (due 4)
        ∗ sendKit (F := F) c 0 1
        ∗ slotPts (sq 0) (sbuf 0) c 1 (outV X Y 0 c 1)
        ∗ ready (F := F) 0 (peer 0 c) 1
        ∗ winP cc0_stg0_0 c (X c)
        ∗ winP cc0_stg1_0 c (Y c)
        ∗ slotAny (F := F) (sbuf 0) c 2
        ∗ sendKit (F := F) c 0 2
        ∗ ready (F := F) 0 (peer 0 c) 2
        ∗ ((flying (F := F) c 0 1
            ∗ winP cc0_stg0_0 c (X c)
            ∗ winP cc0_stg1_0 c (Y c)
            ∗ ow (F := F) c (due 6)
            ∗ flying (F := F) c 0 2) -∗ Kt ⟨⟩))
      ⊢ wp frame (wpE (defs₀ (F := F)) 𝒱₀ c none) Set.univ
          (k0_part4 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v5 v8 v10 v16 v47) Kt := by
  rw [k0_part4_eq_skeleton]; unfold k0_part4_skel
  simp only [semSignalWord, semWaitWord, Prog.lift, Prog.bind_op, Prog.bind_ret, Prog.pure_eq_ret]
  iintro ⟨#HR, #Hl, how, hsk01, hsrc01, hrdy01, hx, hy, hany2, hsk02, hrdy02, Hk⟩
  iapply (send_step X Y K c 0 1 4 rfl rfl rfl rfl rfl (dev5_eq c))
  isplitr; · iexact HR
  isplitl [how]; · iexact how
  isplitl [hsk01]; · iexact hsk01
  isplitl [hsrc01]; · iexact hsrc01
  isplitl [hrdy01]; · iexact hrdy01
  iintro ⟨how, hfly01⟩
  iapply (x_load X c)
  isplitl [hx]; · iexact hx
  iintro hx
  iapply (y_load Y c)
  isplitl [hy]; · iexact hy
  iintro hy
  iapply (any_load c (sbuf 0) 2 rfl rfl)
  isplitl [hany2]; · iexact hany2
  iintro %v hany2
  iapply (slot_store c (sbuf 0) 2 (outV X Y 0 c 2) rfl rfl rfl)
  isplitl [hany2]; · iexact hany2
  iintro hsrc02
  iapply (send_step X Y K c 0 2 5 rfl rfl rfl rfl rfl (dev6_eq c))
  isplitr; · iexact HR
  isplitl [how]; · iexact how
  isplitl [hsk02]; · iexact hsk02
  isplitl [hsrc02]; · iexact hsrc02
  isplitl [hrdy02]; · iexact hrdy02
  iintro ⟨how, hfly02⟩
  rw [wp_ret]; imodintro; iapply Hk
  isplitl [hfly01]; · iexact hfly01
  isplitl [hx]; · iexact hx
  isplitl [hy]; · iexact hy
  isplitl [how]; · iexact how
  iexact hfly02

/-- Part 5 of the body. -/
theorem part5 (v5 v8 v10 v16 v47 v48 : BitVec 32) {Kt : _ → sProp 𝕄} :
    iprop(recs X Y K ∗ levAts L lv ∗ winP cc0_stg0_0 c (X c)
        ∗ winP cc0_stg1_0 c (Y c)
        ∗ slotAny (F := F) (sbuf 0) c 3
        ∗ ow (F := F) c (due 6)
        ∗ sendKit (F := F) c 0 3
        ∗ ready (F := F) 0 (peer 0 c) 3
        ∗ ((winP cc0_stg0_0 c (X c)
            ∗ winP cc0_stg1_0 c (Y c)
            ∗ ow (F := F) c (due 7)
            ∗ flying (F := F) c 0 3) -∗ Kt (k0_pay5 ((xM.access (Rect.unit (s := S4x512x512) (k0_off5 c) S1x256x512.size (k0_off5_inb c))).read (Elt F) (X c)) (yV Y c))))
      ⊢ wp frame (wpE (defs₀ (F := F)) 𝒱₀ c none) Set.univ
          (k0_part5 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v5 v8 v10 v16 v47 v48) Kt := by
  rw [k0_part5_eq_skeleton]; unfold k0_part5_skel
  simp only [semSignalWord, semWaitWord, Prog.lift, Prog.bind_op, Prog.bind_ret, Prog.pure_eq_ret]
  iintro ⟨#HR, #Hl, hx, hy, hany3, how, hsk03, hrdy03, Hk⟩
  iapply (x_load X c)
  isplitl [hx]; · iexact hx
  iintro hx
  iapply (y_load Y c)
  isplitl [hy]; · iexact hy
  iintro hy
  iapply (any_load c (sbuf 0) 3 rfl rfl)
  isplitl [hany3]; · iexact hany3
  iintro %v hany3
  iapply (slot_store c (sbuf 0) 3 (outV X Y 0 c 3) rfl rfl rfl)
  isplitl [hany3]; · iexact hany3
  iintro hsrc03
  iapply (send_step X Y K c 0 3 6 rfl rfl rfl rfl rfl (dev7_eq c))
  isplitr; · iexact HR
  isplitl [how]; · iexact how
  isplitl [hsk03]; · iexact hsk03
  isplitl [hsrc03]; · iexact hsrc03
  isplitl [hrdy03]; · iexact hrdy03
  iintro ⟨how, hfly03⟩
  iapply (x_load X c)
  isplitl [hx]; · iexact hx
  iintro hx
  iapply (y_load Y c)
  isplitl [hy]; · iexact hy
  iintro hy
  rw [wp_ret]; imodintro; iapply Hk
  isplitl [hx]; · iexact hx
  isplitl [hy]; · iexact hy
  isplitl [how]; · iexact how
  iexact hfly03

/-- Part 6 of the body. -/
theorem part6 (v48 : BitVec 32) (f : OT F) {Kt : _ → sProp 𝕄} :
    iprop(recs X Y K ∗ levAts L lv ∗ winP cc0_stg2_0 c f
        ∗ winP cc0_stg0_0 c (X c)
        ∗ winP cc0_stg1_0 c (Y c)
        ∗ ((winP cc0_stg0_0 c (X c)
            ∗ winP cc0_stg1_0 c (Y c)
            ∗ winP cc0_stg2_0 c (putOwn X Y c (putOwn X Y c (putOwn X Y c f 0) 1) 2)) -∗ Kt (k0_pay9 ((xM.access (Rect.unit (s := S4x512x512) (k0_off8 c) S1x256x512.size (k0_off8_inb c))).read (Elt F) (X c)) (yV Y c))))
      ⊢ wp frame (wpE (defs₀ (F := F)) 𝒱₀ c none) Set.univ
          (k0_part6 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v48 (k0_pay5 ((xM.access (Rect.unit (s := S4x512x512) (k0_off5 c) S1x256x512.size (k0_off5_inb c))).read (Elt F) (X c)) (yV Y c))) Kt := by
  rw [k0_part6_eq_skeleton]; unfold k0_part6_skel
  simp only [semSignalWord, semWaitWord, Prog.lift, Prog.bind_op, Prog.bind_ret, Prog.pure_eq_ret]
  iintro ⟨#HR, #Hl, hout, hx, hy, Hk⟩
  iapply (o_load c)
  isplitl [hout]; · iexact hout
  iintro hout
  iapply (o_store c (putOwn X Y c f 0) rfl)
  isplitl [hout]; · iexact hout
  iintro hout
  iapply (x_load X c)
  isplitl [hx]; · iexact hx
  iintro hx
  iapply (y_load Y c)
  isplitl [hy]; · iexact hy
  iintro hy
  iapply (o_load c)
  isplitl [hout]; · iexact hout
  iintro hout
  iapply (o_store c (putOwn X Y c (putOwn X Y c f 0) 1) rfl)
  isplitl [hout]; · iexact hout
  iintro hout
  iapply (x_load X c)
  isplitl [hx]; · iexact hx
  iintro hx
  iapply (y_load Y c)
  isplitl [hy]; · iexact hy
  iintro hy
  iapply (o_load c)
  isplitl [hout]; · iexact hout
  iintro hout
  iapply (o_store c (putOwn X Y c (putOwn X Y c (putOwn X Y c f 0) 1) 2) rfl)
  isplitl [hout]; · iexact hout
  iintro hout
  iapply (x_load X c)
  isplitl [hx]; · iexact hx
  iintro hx
  iapply (y_load Y c)
  isplitl [hy]; · iexact hy
  iintro hy
  iapply (o_load c)
  isplitl [hout]; · iexact hout
  iintro hout
  rw [wp_ret]; imodintro; iapply Hk
  isplitl [hx]; · iexact hx
  isplitl [hy]; · iexact hy
  iexact hout

/-- Part 7 of the body. -/
theorem part7 (v2 v5 v8 v10 v13 : BitVec 32) (f : OT F) {Kt : _ → sProp 𝕄} :
    iprop(recs X Y K ∗ levAts L lv ∗ winP cc0_stg2_0 c f
        ∗ ow (F := F) c (due 7)
        ∗ recvKit (F := F) c 0 0
        ∗ sendKit (F := F) c 1 0
        ∗ ready (F := F) 1 (peer 1 c) 0
        ∗ (∀ (w1 : BitVec 32), ∀ (w2 : BitVec 32), (winP cc0_stg2_0 c (putOwn X Y c f 3)
            ∗ shut (F := F) c (true, 0, 0)
            ∗ slotPts (sq 2) (sbuf 2) c 0 (outV X Y 2 c 0)
            ∗ slotPts fullShare.right.right (lbuf 0) c 0 (inV X Y 0 c 0)
            ∗ ow (F := F) c (due 8)
            ∗ flying (F := F) c 1 0) -∗ Kt ⟨w1, w2⟩))
      ⊢ wp frame (wpE (defs₀ (F := F)) 𝒱₀ c none) Set.univ
          (k0_part7 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v10 v13 (k0_pay9 ((xM.access (Rect.unit (s := S4x512x512) (k0_off8 c) S1x256x512.size (k0_off8_inb c))).read (Elt F) (X c)) (yV Y c))) Kt := by
  rw [k0_part7_eq_skeleton]; unfold k0_part7_skel
  simp only [semSignalWord, semWaitWord, Prog.lift, Prog.bind_op, Prog.bind_ret, Prog.pure_eq_ret]
  iintro ⟨#HR, #Hl, hout, how, hrk00, hsk10, hrdy10, Hk⟩
  iapply (o_store c (putOwn X Y c f 3) rfl)
  isplitl [hout]; · iexact hout
  iintro hout
  iapply (recv0_step X Y K c 0 7 (by decide) rfl (credit_l 0 0))
  isplitr; · iexact HR
  isplitr; · iexact Hl
  isplitl [how]; · iexact how
  isplitl [hrk00]; · iexact hrk00
  iintro ⟨how, hzr00, hsrc10, hsrc20, hkeep00⟩
  iapply (send_step X Y K c 1 0 7 rfl rfl rfl rfl rfl (dev8_eq c))
  isplitr; · iexact HR
  isplitl [how]; · iexact how
  isplitl [hsk10]; · iexact hsk10
  isplitl [hsrc10]; · iexact hsrc10
  isplitl [hrdy10]; · iexact hrdy10
  iintro ⟨how, hfly10⟩
  rw [wp_ret]; imodintro; iapply Hk
  isplitl [hout]; · iexact hout
  isplitl [hzr00]; · iexact hzr00
  isplitl [hsrc20]; · iexact hsrc20
  isplitl [hkeep00]; · iexact hkeep00
  isplitl [how]; · iexact how
  iexact hfly10

/-- Part 8 of the body. -/
theorem part8 (v5 v8 v10 v14 v16 v215 c0_i32_170 : BitVec 32) (f : OT F) {Kt : _ → sProp 𝕄} :
    iprop(recs X Y K ∗ levAts L lv ∗ ow (F := F) c (due 8)
        ∗ sendKit (F := F) c 2 0
        ∗ slotPts (sq 2) (sbuf 2) c 0 (outV X Y 2 c 0)
        ∗ ready (F := F) 2 (peer 2 c) 0
        ∗ winP cc0_stg2_0 c f
        ∗ slotPts fullShare.right.right (lbuf 0) c 0 (inV X Y 0 c 0)
        ∗ ((ow (F := F) c (due 9)
            ∗ flying (F := F) c 2 0
            ∗ slotPts fullShare.right.right (lbuf 0) c 0 (inV X Y 0 c 0)
            ∗ winP cc0_stg2_0 c (acc X Y c f 0 0)) -∗ Kt ⟨⟩))
      ⊢ wp frame (wpE (defs₀ (F := F)) 𝒱₀ c none) Set.univ
          (k0_part8 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v5 v8 v10 v14 v16 v215 c0_i32_170) Kt := by
  rw [k0_part8_eq_skeleton]; unfold k0_part8_skel
  simp only [semSignalWord, semWaitWord, Prog.lift, Prog.bind_op, Prog.bind_ret, Prog.pure_eq_ret]
  iintro ⟨#HR, #Hl, how, hsk20, hsrc20, hrdy20, hout, hkeep00, Hk⟩
  iapply (send_step X Y K c 2 0 8 rfl rfl rfl rfl rfl (dev9_eq c))
  isplitr; · iexact HR
  isplitl [how]; · iexact how
  isplitl [hsk20]; · iexact hsk20
  isplitl [hsrc20]; · iexact hsrc20
  isplitl [hrdy20]; · iexact hrdy20
  iintro ⟨how, hfly20⟩
  iapply (o_load c)
  isplitl [hout]; · iexact hout
  iintro hout
  iapply (slot_load c fullShare.right.right (lbuf 0) 0 (inV X Y 0 c 0) rfl rfl)
  isplitl [hkeep00]; · iexact hkeep00
  iintro hkeep00
  iapply (o_load c)
  isplitl [hout]; · iexact hout
  iintro hout
  iapply (o_store c (acc X Y c f 0 0) (f := f) (r := (Rect.unit (s := S4x256x1024) (k0_off9 c) S1x64x1024.size (k0_off9_inb c))) (w := k0_pay10 ((oM.access (Rect.unit (s := S4x256x1024) (k0_off9 c) S1x64x1024.size (k0_off9_inb c))).read (Elt F) f) (inV X Y 0 c 0)) rfl)
  isplitl [hout]; · iexact hout
  iintro hout
  rw [wp_ret]; imodintro; iapply Hk
  isplitl [how]; · iexact how
  isplitl [hfly20]; · iexact hfly20
  isplitl [hkeep00]; · iexact hkeep00
  iexact hout

/-- Part 9 of the body. -/
theorem part9 (v2 v5 v8 v13 v14 : BitVec 32) {Kt : _ → sProp 𝕄} :
    iprop(recs X Y K ∗ levAts L lv ∗ ow (F := F) c (due 9)
        ∗ recvKit (F := F) c 0 1
        ∗ sendKit (F := F) c 1 1
        ∗ ready (F := F) 1 (peer 1 c) 1
        ∗ sendKit (F := F) c 2 1
        ∗ ready (F := F) 2 (peer 2 c) 1
        ∗ ((shut (F := F) c (true, 0, 1)
            ∗ slotPts fullShare.right.right (lbuf 0) c 1 (inV X Y 0 c 1)
            ∗ flying (F := F) c 1 1
            ∗ ow (F := F) c (due 11)
            ∗ flying (F := F) c 2 1) -∗ Kt ⟨⟩))
      ⊢ wp frame (wpE (defs₀ (F := F)) 𝒱₀ c none) Set.univ
          (k0_part9 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14) Kt := by
  rw [k0_part9_eq_skeleton]; unfold k0_part9_skel
  simp only [semSignalWord, semWaitWord, Prog.lift, Prog.bind_op, Prog.bind_ret, Prog.pure_eq_ret]
  iintro ⟨#HR, #Hl, how, hrk01, hsk11, hrdy11, hsk21, hrdy21, Hk⟩
  iapply (recv0_step X Y K c 1 9 (by decide) rfl (credit_l 0 1))
  isplitr; · iexact HR
  isplitr; · iexact Hl
  isplitl [how]; · iexact how
  isplitl [hrk01]; · iexact hrk01
  iintro ⟨how, hzr01, hsrc11, hsrc21, hkeep01⟩
  iapply (send_step X Y K c 1 1 9 rfl rfl rfl rfl rfl (dev10_eq c))
  isplitr; · iexact HR
  isplitl [how]; · iexact how
  isplitl [hsk11]; · iexact hsk11
  isplitl [hsrc11]; · iexact hsrc11
  isplitl [hrdy11]; · iexact hrdy11
  iintro ⟨how, hfly11⟩
  iapply (send_step X Y K c 2 1 10 rfl rfl rfl rfl rfl (dev11_eq c))
  isplitr; · iexact HR
  isplitl [how]; · iexact how
  isplitl [hsk21]; · iexact hsk21
  isplitl [hsrc21]; · iexact hsrc21
  isplitl [hrdy21]; · iexact hrdy21
  iintro ⟨how, hfly21⟩
  rw [wp_ret]; imodintro; iapply Hk
  isplitl [hzr01]; · iexact hzr01
  isplitl [hkeep01]; · iexact hkeep01
  isplitl [hfly11]; · iexact hfly11
  isplitl [how]; · iexact how
  iexact hfly21

/-- Part 10 of the body. -/
theorem part10 (v2 v5 v8 v10 v13 v16 : BitVec 32) (f : OT F) {Kt : _ → sProp 𝕄} :
    iprop(recs X Y K ∗ levAts L lv ∗ winP cc0_stg2_0 c f
        ∗ slotPts fullShare.right.right (lbuf 0) c 1 (inV X Y 0 c 1)
        ∗ ow (F := F) c (due 11)
        ∗ recvKit (F := F) c 0 2
        ∗ ((slotPts fullShare.right.right (lbuf 0) c 1 (inV X Y 0 c 1)
            ∗ winP cc0_stg2_0 c (acc X Y c f 0 1)
            ∗ ow (F := F) c (due 11)
            ∗ shut (F := F) c (true, 0, 2)
            ∗ slotPts (sq 1) (sbuf 1) c 2 (outV X Y 1 c 2)
            ∗ slotPts (sq 2) (sbuf 2) c 2 (outV X Y 2 c 2)
            ∗ slotPts fullShare.right.right (lbuf 0) c 2 (inV X Y 0 c 2)) -∗ Kt ⟨⟩))
      ⊢ wp frame (wpE (defs₀ (F := F)) 𝒱₀ c none) Set.univ
          (k0_part10 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v10 v13 v16) Kt := by
  rw [k0_part10_eq_skeleton]; unfold k0_part10_skel
  simp only [semSignalWord, semWaitWord, Prog.lift, Prog.bind_op, Prog.bind_ret, Prog.pure_eq_ret]
  iintro ⟨#HR, #Hl, hout, hkeep01, how, hrk02, Hk⟩
  iapply (o_load c)
  isplitl [hout]; · iexact hout
  iintro hout
  iapply (slot_load c fullShare.right.right (lbuf 0) 1 (inV X Y 0 c 1) rfl rfl)
  isplitl [hkeep01]; · iexact hkeep01
  iintro hkeep01
  iapply (o_load c)
  isplitl [hout]; · iexact hout
  iintro hout
  iapply (o_store c (acc X Y c f 0 1) (f := f) (r := (Rect.unit (s := S4x256x1024) (k0_off10 c) S1x64x1024.size (k0_off10_inb c))) (w := k0_pay11 ((oM.access (Rect.unit (s := S4x256x1024) (k0_off10 c) S1x64x1024.size (k0_off10_inb c))).read (Elt F) f) (inV X Y 0 c 1)) rfl)
  isplitl [hout]; · iexact hout
  iintro hout
  iapply (recv0_step X Y K c 2 11 (by decide) rfl (credit_l 0 2))
  isplitr; · iexact HR
  isplitr; · iexact Hl
  isplitl [how]; · iexact how
  isplitl [hrk02]; · iexact hrk02
  iintro ⟨how, hzr02, hsrc12, hsrc22, hkeep02⟩
  rw [wp_ret]; imodintro; iapply Hk
  isplitl [hkeep01]; · iexact hkeep01
  isplitl [hout]; · iexact hout
  isplitl [how]; · iexact how
  isplitl [hzr02]; · iexact hzr02
  isplitl [hsrc12]; · iexact hsrc12
  isplitl [hsrc22]; · iexact hsrc22
  iexact hkeep02

/-- Part 11 of the body. -/
theorem part11 (v2 v8 v14 v16 : BitVec 32) (f : OT F) {Kt : _ → sProp 𝕄} :
    iprop(recs X Y K ∗ levAts L lv ∗ ow (F := F) c (due 11)
        ∗ sendKit (F := F) c 1 2
        ∗ slotPts (sq 1) (sbuf 1) c 2 (outV X Y 1 c 2)
        ∗ ready (F := F) 1 (peer 1 c) 2
        ∗ sendKit (F := F) c 2 2
        ∗ slotPts (sq 2) (sbuf 2) c 2 (outV X Y 2 c 2)
        ∗ ready (F := F) 2 (peer 2 c) 2
        ∗ winP cc0_stg2_0 c f
        ∗ slotPts fullShare.right.right (lbuf 0) c 2 (inV X Y 0 c 2)
        ∗ ((flying (F := F) c 1 2
            ∗ ow (F := F) c (due 13)
            ∗ flying (F := F) c 2 2
            ∗ winP cc0_stg2_0 c f
            ∗ slotPts fullShare.right.right (lbuf 0) c 2 (inV X Y 0 c 2)) -∗ Kt (k0_pay12 ((oM.access (Rect.unit (s := S4x256x1024) (k0_off11 c) S1x64x1024.size (k0_off11_inb c))).read (Elt F) f) (inV X Y 0 c 2))))
      ⊢ wp frame (wpE (defs₀ (F := F)) 𝒱₀ c none) Set.univ
          (k0_part11 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v16) Kt := by
  rw [k0_part11_eq_skeleton]; unfold k0_part11_skel
  simp only [semSignalWord, semWaitWord, Prog.lift, Prog.bind_op, Prog.bind_ret, Prog.pure_eq_ret]
  iintro ⟨#HR, #Hl, how, hsk12, hsrc12, hrdy12, hsk22, hsrc22, hrdy22, hout, hkeep02, Hk⟩
  iapply (send_step X Y K c 1 2 11 rfl rfl rfl rfl rfl (dev12_eq c))
  isplitr; · iexact HR
  isplitl [how]; · iexact how
  isplitl [hsk12]; · iexact hsk12
  isplitl [hsrc12]; · iexact hsrc12
  isplitl [hrdy12]; · iexact hrdy12
  iintro ⟨how, hfly12⟩
  iapply (send_step X Y K c 2 2 12 rfl rfl rfl rfl rfl (dev13_eq c))
  isplitr; · iexact HR
  isplitl [how]; · iexact how
  isplitl [hsk22]; · iexact hsk22
  isplitl [hsrc22]; · iexact hsrc22
  isplitl [hrdy22]; · iexact hrdy22
  iintro ⟨how, hfly22⟩
  iapply (o_load c)
  isplitl [hout]; · iexact hout
  iintro hout
  iapply (slot_load c fullShare.right.right (lbuf 0) 2 (inV X Y 0 c 2) rfl rfl)
  isplitl [hkeep02]; · iexact hkeep02
  iintro hkeep02
  iapply (o_load c)
  isplitl [hout]; · iexact hout
  iintro hout
  rw [wp_ret]; imodintro; iapply Hk
  isplitl [hfly12]; · iexact hfly12
  isplitl [how]; · iexact how
  isplitl [hfly22]; · iexact hfly22
  isplitl [hout]; · iexact hout
  iexact hkeep02

/-- Part 12 of the body. -/
theorem part12 (v2 v5 v8 v10 v13 : BitVec 32) (f : OT F) {Kt : _ → sProp 𝕄} :
    iprop(recs X Y K ∗ levAts L lv ∗ winP cc0_stg2_0 c f
        ∗ ow (F := F) c (due 13)
        ∗ recvKit (F := F) c 0 3
        ∗ sendKit (F := F) c 1 3
        ∗ ready (F := F) 1 (peer 1 c) 3
        ∗ (∀ (w1 : BitVec 32), ∀ (w2 : BitVec 32), (winP cc0_stg2_0 c (acc X Y c f 0 2)
            ∗ shut (F := F) c (true, 0, 3)
            ∗ slotPts (sq 2) (sbuf 2) c 3 (outV X Y 2 c 3)
            ∗ slotPts fullShare.right.right (lbuf 0) c 3 (inV X Y 0 c 3)
            ∗ ow (F := F) c (due 14)
            ∗ flying (F := F) c 1 3) -∗ Kt ⟨w1, w2⟩))
      ⊢ wp frame (wpE (defs₀ (F := F)) 𝒱₀ c none) Set.univ
          (k0_part12 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v10 v13 (k0_pay12 ((oM.access (Rect.unit (s := S4x256x1024) (k0_off11 c) S1x64x1024.size (k0_off11_inb c))).read (Elt F) f) (inV X Y 0 c 2))) Kt := by
  rw [k0_part12_eq_skeleton]; unfold k0_part12_skel
  simp only [semSignalWord, semWaitWord, Prog.lift, Prog.bind_op, Prog.bind_ret, Prog.pure_eq_ret]
  iintro ⟨#HR, #Hl, hout, how, hrk03, hsk13, hrdy13, Hk⟩
  iapply (o_store c (acc X Y c f 0 2) (f := f) (r := (Rect.unit (s := S4x256x1024) (k0_off11 c) S1x64x1024.size (k0_off11_inb c))) (w := k0_pay12 ((oM.access (Rect.unit (s := S4x256x1024) (k0_off11 c) S1x64x1024.size (k0_off11_inb c))).read (Elt F) f) (inV X Y 0 c 2)) rfl)
  isplitl [hout]; · iexact hout
  iintro hout
  iapply (recv0_step X Y K c 3 13 (by decide) rfl (credit_l 0 3))
  isplitr; · iexact HR
  isplitr; · iexact Hl
  isplitl [how]; · iexact how
  isplitl [hrk03]; · iexact hrk03
  iintro ⟨how, hzr03, hsrc13, hsrc23, hkeep03⟩
  iapply (send_step X Y K c 1 3 13 rfl rfl rfl rfl rfl (dev14_eq c))
  isplitr; · iexact HR
  isplitl [how]; · iexact how
  isplitl [hsk13]; · iexact hsk13
  isplitl [hsrc13]; · iexact hsrc13
  isplitl [hrdy13]; · iexact hrdy13
  iintro ⟨how, hfly13⟩
  rw [wp_ret]; imodintro; iapply Hk
  isplitl [hout]; · iexact hout
  isplitl [hzr03]; · iexact hzr03
  isplitl [hsrc23]; · iexact hsrc23
  isplitl [hkeep03]; · iexact hkeep03
  isplitl [how]; · iexact how
  iexact hfly13

/-- Part 13 of the body. -/
theorem part13 (v2 v5 v8 v13 v14 v16 v371 c0_i32_302 : BitVec 32) (f : OT F) {Kt : _ → sProp 𝕄} :
    iprop(recs X Y K ∗ levAts L lv ∗ ow (F := F) c (due 14)
        ∗ sendKit (F := F) c 2 3
        ∗ slotPts (sq 2) (sbuf 2) c 3 (outV X Y 2 c 3)
        ∗ ready (F := F) 2 (peer 2 c) 3
        ∗ winP cc0_stg2_0 c f
        ∗ slotPts fullShare.right.right (lbuf 0) c 3 (inV X Y 0 c 3)
        ∗ ((ow (F := F) c (due 15)
            ∗ flying (F := F) c 2 3
            ∗ slotPts fullShare.right.right (lbuf 0) c 3 (inV X Y 0 c 3)
            ∗ winP cc0_stg2_0 c (acc X Y c f 0 3)) -∗ Kt ⟨⟩))
      ⊢ wp frame (wpE (defs₀ (F := F)) 𝒱₀ c none) Set.univ
          (k0_part13 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14 v16 v371 c0_i32_302) Kt := by
  rw [k0_part13_eq_skeleton]; unfold k0_part13_skel
  simp only [semSignalWord, semWaitWord, Prog.lift, Prog.bind_op, Prog.bind_ret, Prog.pure_eq_ret]
  iintro ⟨#HR, #Hl, how, hsk23, hsrc23, hrdy23, hout, hkeep03, Hk⟩
  iapply (send_step X Y K c 2 3 14 rfl rfl rfl rfl rfl (dev15_eq c))
  isplitr; · iexact HR
  isplitl [how]; · iexact how
  isplitl [hsk23]; · iexact hsk23
  isplitl [hsrc23]; · iexact hsrc23
  isplitl [hrdy23]; · iexact hrdy23
  iintro ⟨how, hfly23⟩
  iapply (o_load c)
  isplitl [hout]; · iexact hout
  iintro hout
  iapply (slot_load c fullShare.right.right (lbuf 0) 3 (inV X Y 0 c 3) rfl rfl)
  isplitl [hkeep03]; · iexact hkeep03
  iintro hkeep03
  iapply (o_load c)
  isplitl [hout]; · iexact hout
  iintro hout
  iapply (o_store c (acc X Y c f 0 3) (f := f) (r := (Rect.unit (s := S4x256x1024) (k0_off12 c) S1x64x1024.size (k0_off12_inb c))) (w := k0_pay13 ((oM.access (Rect.unit (s := S4x256x1024) (k0_off12 c) S1x64x1024.size (k0_off12_inb c))).read (Elt F) f) (inV X Y 0 c 3)) rfl)
  isplitl [hout]; · iexact hout
  iintro hout
  rw [wp_ret]; imodintro; iapply Hk
  isplitl [how]; · iexact how
  isplitl [hfly23]; · iexact hfly23
  isplitl [hkeep03]; · iexact hkeep03
  iexact hout

/-- Part 14 of the body. -/
theorem part14 (v2 v8 v14 v19 : BitVec 32) (f : OT F) {Kt : _ → sProp 𝕄} :
    iprop(recs X Y K ∗ levAts L lv ∗ ow (F := F) c (due 15)
        ∗ recvKit (F := F) c 1 0
        ∗ sendKit (F := F) c 3 0
        ∗ ready (F := F) 3 (peer 3 c) 0
        ∗ winP cc0_stg2_0 c f
        ∗ (∀ (w1 : BitVec 32), (shut (F := F) c (true, 1, 0)
            ∗ slotPts fullShare.right (lbuf 1) c 0 (inV X Y 1 c 0)
            ∗ ow (F := F) c (due 16)
            ∗ flying (F := F) c 3 0
            ∗ winP cc0_stg2_0 c (acc X Y c f 1 0)) -∗ Kt w1))
      ⊢ wp frame (wpE (defs₀ (F := F)) 𝒱₀ c none) Set.univ
          (k0_part14 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v19) Kt := by
  rw [k0_part14_eq_skeleton]; unfold k0_part14_skel
  simp only [semSignalWord, semWaitWord, Prog.lift, Prog.bind_op, Prog.bind_ret, Prog.pure_eq_ret]
  iintro ⟨#HR, #Hl, how, hrk10, hsk30, hrdy30, hout, Hk⟩
  iapply (recv1_step X Y K c 0 15 (by decide) rfl (credit_l 1 0))
  isplitr; · iexact HR
  isplitr; · iexact Hl
  isplitl [how]; · iexact how
  isplitl [hrk10]; · iexact hrk10
  iintro ⟨how, hzr10, hsrc30, hkeep10⟩
  iapply (send_step X Y K c 3 0 15 rfl rfl rfl rfl rfl (dev16_eq c))
  isplitr; · iexact HR
  isplitl [how]; · iexact how
  isplitl [hsk30]; · iexact hsk30
  isplitl [hsrc30]; · iexact hsrc30
  isplitl [hrdy30]; · iexact hrdy30
  iintro ⟨how, hfly30⟩
  iapply (o_load c)
  isplitl [hout]; · iexact hout
  iintro hout
  iapply (slot_load c fullShare.right (lbuf 1) 0 (inV X Y 1 c 0) rfl rfl)
  isplitl [hkeep10]; · iexact hkeep10
  iintro hkeep10
  iapply (o_load c)
  isplitl [hout]; · iexact hout
  iintro hout
  iapply (o_store c (acc X Y c f 1 0) (f := f) (r := (Rect.unit (s := S4x256x1024) (k0_off13 c) S1x64x1024.size (k0_off13_inb c))) (w := k0_pay14 ((oM.access (Rect.unit (s := S4x256x1024) (k0_off13 c) S1x64x1024.size (k0_off13_inb c))).read (Elt F) f) (inV X Y 1 c 0)) rfl)
  isplitl [hout]; · iexact hout
  iintro hout
  rw [wp_ret]; imodintro; iapply Hk
  isplitl [hzr10]; · iexact hzr10
  isplitl [hkeep10]; · iexact hkeep10
  isplitl [how]; · iexact how
  isplitl [hfly30]; · iexact hfly30
  iexact hout

/-- Part 15 of the body. -/
theorem part15 (v2 v5 v8 v13 v14 v19 v435 : BitVec 32) (f : OT F) {Kt : _ → sProp 𝕄} :
    iprop(recs X Y K ∗ levAts L lv ∗ ow (F := F) c (due 16)
        ∗ recvKit (F := F) c 1 1
        ∗ sendKit (F := F) c 3 1
        ∗ ready (F := F) 3 (peer 3 c) 1
        ∗ winP cc0_stg2_0 c f
        ∗ (∀ (w1 : BitVec 32), (shut (F := F) c (true, 1, 1)
            ∗ slotPts fullShare.right (lbuf 1) c 1 (inV X Y 1 c 1)
            ∗ ow (F := F) c (due 17)
            ∗ flying (F := F) c 3 1
            ∗ winP cc0_stg2_0 c f) -∗ Kt ⟨w1, k0_pay15 ((oM.access (Rect.unit (s := S4x256x1024) (k0_off14 c) S1x64x1024.size (k0_off14_inb c))).read (Elt F) f) (inV X Y 1 c 1)⟩))
      ⊢ wp frame (wpE (defs₀ (F := F)) 𝒱₀ c none) Set.univ
          (k0_part15 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14 v19 v435) Kt := by
  rw [k0_part15_eq_skeleton]; unfold k0_part15_skel
  simp only [semSignalWord, semWaitWord, Prog.lift, Prog.bind_op, Prog.bind_ret, Prog.pure_eq_ret]
  iintro ⟨#HR, #Hl, how, hrk11, hsk31, hrdy31, hout, Hk⟩
  iapply (recv1_step X Y K c 1 16 (by decide) rfl (credit_l 1 1))
  isplitr; · iexact HR
  isplitr; · iexact Hl
  isplitl [how]; · iexact how
  isplitl [hrk11]; · iexact hrk11
  iintro ⟨how, hzr11, hsrc31, hkeep11⟩
  iapply (send_step X Y K c 3 1 16 rfl rfl rfl rfl rfl (dev17_eq c))
  isplitr; · iexact HR
  isplitl [how]; · iexact how
  isplitl [hsk31]; · iexact hsk31
  isplitl [hsrc31]; · iexact hsrc31
  isplitl [hrdy31]; · iexact hrdy31
  iintro ⟨how, hfly31⟩
  iapply (o_load c)
  isplitl [hout]; · iexact hout
  iintro hout
  iapply (slot_load c fullShare.right (lbuf 1) 1 (inV X Y 1 c 1) rfl rfl)
  isplitl [hkeep11]; · iexact hkeep11
  iintro hkeep11
  rw [wp_ret]; imodintro; iapply Hk
  isplitl [hzr11]; · iexact hzr11
  isplitl [hkeep11]; · iexact hkeep11
  isplitl [how]; · iexact how
  isplitl [hfly31]; · iexact hfly31
  iexact hout

/-- Part 16 of the body. -/
theorem part16 (v2 v5 v8 v13 v14 v461 : BitVec 32) (f : OT F) {Kt : _ → sProp 𝕄} :
    iprop(recs X Y K ∗ levAts L lv ∗ winP cc0_stg2_0 c f
        ∗ ow (F := F) c (due 17)
        ∗ recvKit (F := F) c 1 2
        ∗ sendKit (F := F) c 3 2
        ∗ ready (F := F) 3 (peer 3 c) 2
        ∗ (∀ (w1 : BitVec 32), (winP cc0_stg2_0 c (acc X Y c f 1 1)
            ∗ shut (F := F) c (true, 1, 2)
            ∗ slotPts fullShare.right (lbuf 1) c 2 (inV X Y 1 c 2)
            ∗ ow (F := F) c (due 18)
            ∗ flying (F := F) c 3 2) -∗ Kt w1))
      ⊢ wp frame (wpE (defs₀ (F := F)) 𝒱₀ c none) Set.univ
          (k0_part16 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14 v461 (k0_pay15 ((oM.access (Rect.unit (s := S4x256x1024) (k0_off14 c) S1x64x1024.size (k0_off14_inb c))).read (Elt F) f) (inV X Y 1 c 1))) Kt := by
  rw [k0_part16_eq_skeleton]; unfold k0_part16_skel
  simp only [semSignalWord, semWaitWord, Prog.lift, Prog.bind_op, Prog.bind_ret, Prog.pure_eq_ret]
  iintro ⟨#HR, #Hl, hout, how, hrk12, hsk32, hrdy32, Hk⟩
  iapply (o_load c)
  isplitl [hout]; · iexact hout
  iintro hout
  iapply (o_store c (acc X Y c f 1 1) (f := f) (r := (Rect.unit (s := S4x256x1024) (k0_off14 c) S1x64x1024.size (k0_off14_inb c))) (w := k0_pay16 (k0_pay15 ((oM.access (Rect.unit (s := S4x256x1024) (k0_off14 c) S1x64x1024.size (k0_off14_inb c))).read (Elt F) f) (inV X Y 1 c 1))) rfl)
  isplitl [hout]; · iexact hout
  iintro hout
  iapply (recv1_step X Y K c 2 17 (by decide) rfl (credit_l 1 2))
  isplitr; · iexact HR
  isplitr; · iexact Hl
  isplitl [how]; · iexact how
  isplitl [hrk12]; · iexact hrk12
  iintro ⟨how, hzr12, hsrc32, hkeep12⟩
  iapply (send_step X Y K c 3 2 17 rfl rfl rfl rfl rfl (dev18_eq c))
  isplitr; · iexact HR
  isplitl [how]; · iexact how
  isplitl [hsk32]; · iexact hsk32
  isplitl [hsrc32]; · iexact hsrc32
  isplitl [hrdy32]; · iexact hrdy32
  iintro ⟨how, hfly32⟩
  rw [wp_ret]; imodintro; iapply Hk
  isplitl [hout]; · iexact hout
  isplitl [hzr12]; · iexact hzr12
  isplitl [hkeep12]; · iexact hkeep12
  isplitl [how]; · iexact how
  iexact hfly32

/-- Part 17 of the body. -/
theorem part17 (v2 v5 v8 v13 v14 v19 c64_i32_405 : BitVec 32) (f : OT F) {Kt : _ → sProp 𝕄} :
    iprop(recs X Y K ∗ levAts L lv ∗ winP cc0_stg2_0 c f
        ∗ slotPts fullShare.right (lbuf 1) c 2 (inV X Y 1 c 2)
        ∗ ow (F := F) c (due 18)
        ∗ recvKit (F := F) c 1 3
        ∗ ((slotPts fullShare.right (lbuf 1) c 2 (inV X Y 1 c 2)
            ∗ winP cc0_stg2_0 c (acc X Y c f 1 2)
            ∗ ow (F := F) c (due 18)
            ∗ shut (F := F) c (true, 1, 3)
            ∗ slotPts (sq 3) (sbuf 3) c 3 (outV X Y 3 c 3)
            ∗ slotPts fullShare.right (lbuf 1) c 3 (inV X Y 1 c 3)) -∗ Kt ⟨⟩))
      ⊢ wp frame (wpE (defs₀ (F := F)) 𝒱₀ c none) Set.univ
          (k0_part17 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v13 v14 v19 c64_i32_405) Kt := by
  rw [k0_part17_eq_skeleton]; unfold k0_part17_skel
  simp only [semSignalWord, semWaitWord, Prog.lift, Prog.bind_op, Prog.bind_ret, Prog.pure_eq_ret]
  iintro ⟨#HR, #Hl, hout, hkeep12, how, hrk13, Hk⟩
  iapply (o_load c)
  isplitl [hout]; · iexact hout
  iintro hout
  iapply (slot_load c fullShare.right (lbuf 1) 2 (inV X Y 1 c 2) rfl rfl)
  isplitl [hkeep12]; · iexact hkeep12
  iintro hkeep12
  iapply (o_load c)
  isplitl [hout]; · iexact hout
  iintro hout
  iapply (o_store c (acc X Y c f 1 2) (f := f) (r := (Rect.unit (s := S4x256x1024) (k0_off15 c) S1x64x1024.size (k0_off15_inb c))) (w := k0_pay17 ((oM.access (Rect.unit (s := S4x256x1024) (k0_off15 c) S1x64x1024.size (k0_off15_inb c))).read (Elt F) f) (inV X Y 1 c 2)) rfl)
  isplitl [hout]; · iexact hout
  iintro hout
  iapply (recv1_step X Y K c 3 18 (by decide) rfl (credit_l 1 3))
  isplitr; · iexact HR
  isplitr; · iexact Hl
  isplitl [how]; · iexact how
  isplitl [hrk13]; · iexact hrk13
  iintro ⟨how, hzr13, hsrc33, hkeep13⟩
  rw [wp_ret]; imodintro; iapply Hk
  isplitl [hkeep12]; · iexact hkeep12
  isplitl [hout]; · iexact hout
  isplitl [how]; · iexact how
  isplitl [hzr13]; · iexact hzr13
  isplitl [hsrc33]; · iexact hsrc33
  iexact hkeep13

/-- Part 18 of the body. -/
theorem part18 (v2 v8 v14 v19 v22 : BitVec 32) (f : OT F) {Kt : _ → sProp 𝕄} :
    iprop(recs X Y K ∗ levAts L lv ∗ ow (F := F) c (due 18)
        ∗ sendKit (F := F) c 3 3
        ∗ slotPts (sq 3) (sbuf 3) c 3 (outV X Y 3 c 3)
        ∗ ready (F := F) 3 (peer 3 c) 3
        ∗ winP cc0_stg2_0 c f
        ∗ slotPts fullShare.right (lbuf 1) c 3 (inV X Y 1 c 3)
        ∗ recvKit (F := F) c 2 0
        ∗ (∀ (w1 : BitVec 32), (flying (F := F) c 3 3
            ∗ slotPts fullShare.right (lbuf 1) c 3 (inV X Y 1 c 3)
            ∗ winP cc0_stg2_0 c (acc X Y c f 1 3)
            ∗ ow (F := F) c (due 19)
            ∗ shut (F := F) c (true, 2, 0)
            ∗ slotPts fullShare (lbuf 2) c 0 (inV X Y 2 c 0)) -∗ Kt w1))
      ⊢ wp frame (wpE (defs₀ (F := F)) 𝒱₀ c none) Set.univ
          (k0_part18 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v19 v22) Kt := by
  rw [k0_part18_eq_skeleton]; unfold k0_part18_skel
  simp only [semSignalWord, semWaitWord, Prog.lift, Prog.bind_op, Prog.bind_ret, Prog.pure_eq_ret]
  iintro ⟨#HR, #Hl, how, hsk33, hsrc33, hrdy33, hout, hkeep13, hrk20, Hk⟩
  iapply (send_step X Y K c 3 3 18 rfl rfl rfl rfl rfl (dev19_eq c))
  isplitr; · iexact HR
  isplitl [how]; · iexact how
  isplitl [hsk33]; · iexact hsk33
  isplitl [hsrc33]; · iexact hsrc33
  isplitl [hrdy33]; · iexact hrdy33
  iintro ⟨how, hfly33⟩
  iapply (o_load c)
  isplitl [hout]; · iexact hout
  iintro hout
  iapply (slot_load c fullShare.right (lbuf 1) 3 (inV X Y 1 c 3) rfl rfl)
  isplitl [hkeep13]; · iexact hkeep13
  iintro hkeep13
  iapply (o_load c)
  isplitl [hout]; · iexact hout
  iintro hout
  iapply (o_store c (acc X Y c f 1 3) (f := f) (r := (Rect.unit (s := S4x256x1024) (k0_off16 c) S1x64x1024.size (k0_off16_inb c))) (w := k0_pay18 ((oM.access (Rect.unit (s := S4x256x1024) (k0_off16 c) S1x64x1024.size (k0_off16_inb c))).read (Elt F) f) (inV X Y 1 c 3)) rfl)
  isplitl [hout]; · iexact hout
  iintro hout
  iapply (recv_step X Y K c 2 0 19 (by decide) rfl (credit_l 2 0))
  isplitr; · iexact HR
  isplitr; · iexact Hl
  isplitl [how]; · iexact how
  isplitl [hrk20]; · iexact hrk20
  iintro ⟨how, hzr20, hkeep20⟩
  rw [wp_ret]; imodintro; iapply Hk
  isplitl [hfly33]; · iexact hfly33
  isplitl [hkeep13]; · iexact hkeep13
  isplitl [hout]; · iexact hout
  isplitl [how]; · iexact how
  isplitl [hzr20]; · iexact hzr20
  iexact hkeep20

/-- Part 19 of the body. -/
theorem part19 (v2 v8 v14 v22 v561 : BitVec 32) (f : OT F) {Kt : _ → sProp 𝕄} :
    iprop(recs X Y K ∗ levAts L lv ∗ winP cc0_stg2_0 c f
        ∗ slotPts fullShare (lbuf 2) c 0 (inV X Y 2 c 0)
        ∗ ow (F := F) c (due 19)
        ∗ recvKit (F := F) c 2 1
        ∗ ((slotPts fullShare (lbuf 2) c 0 (inV X Y 2 c 0)
            ∗ winP cc0_stg2_0 c (acc X Y c f 2 0)
            ∗ ow (F := F) c (due 19)
            ∗ shut (F := F) c (true, 2, 1)
            ∗ slotPts fullShare (lbuf 2) c 1 (inV X Y 2 c 1)) -∗ Kt (k0_pay20 ((oM.access (Rect.unit (s := S4x256x1024) (k0_off18 c) S1x64x1024.size (k0_off18_inb c))).read (Elt F) (acc X Y c f 2 0)) (inV X Y 2 c 1))))
      ⊢ wp frame (wpE (defs₀ (F := F)) 𝒱₀ c none) Set.univ
          (k0_part19 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v22 v561) Kt := by
  rw [k0_part19_eq_skeleton]; unfold k0_part19_skel
  simp only [semSignalWord, semWaitWord, Prog.lift, Prog.bind_op, Prog.bind_ret, Prog.pure_eq_ret]
  iintro ⟨#HR, #Hl, hout, hkeep20, how, hrk21, Hk⟩
  iapply (o_load c)
  isplitl [hout]; · iexact hout
  iintro hout
  iapply (slot_load c fullShare (lbuf 2) 0 (inV X Y 2 c 0) rfl rfl)
  isplitl [hkeep20]; · iexact hkeep20
  iintro hkeep20
  iapply (o_load c)
  isplitl [hout]; · iexact hout
  iintro hout
  iapply (o_store c (acc X Y c f 2 0) (f := f) (r := (Rect.unit (s := S4x256x1024) (k0_off17 c) S1x64x1024.size (k0_off17_inb c))) (w := k0_pay19 ((oM.access (Rect.unit (s := S4x256x1024) (k0_off17 c) S1x64x1024.size (k0_off17_inb c))).read (Elt F) f) (inV X Y 2 c 0)) rfl)
  isplitl [hout]; · iexact hout
  iintro hout
  iapply (recv_step X Y K c 2 1 19 (by decide) rfl (credit_l 2 1))
  isplitr; · iexact HR
  isplitr; · iexact Hl
  isplitl [how]; · iexact how
  isplitl [hrk21]; · iexact hrk21
  iintro ⟨how, hzr21, hkeep21⟩
  iapply (o_load c)
  isplitl [hout]; · iexact hout
  iintro hout
  iapply (slot_load c fullShare (lbuf 2) 1 (inV X Y 2 c 1) rfl rfl)
  isplitl [hkeep21]; · iexact hkeep21
  iintro hkeep21
  rw [wp_ret]; imodintro; iapply Hk
  isplitl [hkeep20]; · iexact hkeep20
  isplitl [hout]; · iexact hout
  isplitl [how]; · iexact how
  isplitl [hzr21]; · iexact hzr21
  iexact hkeep21

/-- Part 20 of the body. -/
theorem part20 (v2 v8 v14 v22 : BitVec 32) (f : OT F) {Kt : _ → sProp 𝕄} :
    iprop(recs X Y K ∗ levAts L lv ∗ winP cc0_stg2_0 c f
        ∗ ow (F := F) c (due 19)
        ∗ recvKit (F := F) c 2 2
        ∗ (∀ (w1 : BitVec 32), ∀ (w2 : BitVec 32), (ow (F := F) c (due 19)
            ∗ shut (F := F) c (true, 2, 2)
            ∗ slotPts fullShare (lbuf 2) c 2 (inV X Y 2 c 2)
            ∗ winP cc0_stg2_0 c (acc X Y c (acc X Y c f 2 1) 2 2)) -∗ Kt ⟨w1, w2⟩))
      ⊢ wp frame (wpE (defs₀ (F := F)) 𝒱₀ c none) Set.univ
          (k0_part20 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v22 (k0_pay20 ((oM.access (Rect.unit (s := S4x256x1024) (k0_off18 c) S1x64x1024.size (k0_off18_inb c))).read (Elt F) f) (inV X Y 2 c 1))) Kt := by
  rw [k0_part20_eq_skeleton]; unfold k0_part20_skel
  simp only [semSignalWord, semWaitWord, Prog.lift, Prog.bind_op, Prog.bind_ret, Prog.pure_eq_ret]
  iintro ⟨#HR, #Hl, hout, how, hrk22, Hk⟩
  iapply (o_load c)
  isplitl [hout]; · iexact hout
  iintro hout
  iapply (o_store c (acc X Y c f 2 1) (f := f) (r := (Rect.unit (s := S4x256x1024) (k0_off18 c) S1x64x1024.size (k0_off18_inb c))) (w := k0_pay21 (k0_pay20 ((oM.access (Rect.unit (s := S4x256x1024) (k0_off18 c) S1x64x1024.size (k0_off18_inb c))).read (Elt F) f) (inV X Y 2 c 1))) rfl)
  isplitl [hout]; · iexact hout
  iintro hout
  iapply (recv_step X Y K c 2 2 19 (by decide) rfl (credit_l 2 2))
  isplitr; · iexact HR
  isplitr; · iexact Hl
  isplitl [how]; · iexact how
  isplitl [hrk22]; · iexact hrk22
  iintro ⟨how, hzr22, hkeep22⟩
  iapply (o_load c)
  isplitl [hout]; · iexact hout
  iintro hout
  iapply (slot_load c fullShare (lbuf 2) 2 (inV X Y 2 c 2) rfl rfl)
  isplitl [hkeep22]; · iexact hkeep22
  iintro hkeep22
  iapply (o_load c)
  isplitl [hout]; · iexact hout
  iintro hout
  iapply (o_store c (acc X Y c (acc X Y c f 2 1) 2 2) (f := (acc X Y c f 2 1)) (r := (Rect.unit (s := S4x256x1024) (k0_off19 c) S1x64x1024.size (k0_off19_inb c))) (w := k0_pay22 ((oM.access (Rect.unit (s := S4x256x1024) (k0_off19 c) S1x64x1024.size (k0_off19_inb c))).read (Elt F) (acc X Y c f 2 1)) (inV X Y 2 c 2)) rfl)
  isplitl [hout]; · iexact hout
  iintro hout
  rw [wp_ret]; imodintro; iapply Hk
  isplitl [how]; · iexact how
  isplitl [hzr22]; · iexact hzr22
  isplitl [hkeep22]; · iexact hkeep22
  iexact hout

/-- Part 21 of the body. -/
theorem part21 (v2 v8 v14 v22 v622 c4_i32_511 : BitVec 32) (f : OT F) {Kt : _ → sProp 𝕄} :
    iprop(recs X Y K ∗ levAts L lv ∗ ow (F := F) c (due 19)
        ∗ recvKit (F := F) c 2 3
        ∗ winP cc0_stg2_0 c f
        ∗ ((ow (F := F) c (due 19)
            ∗ shut (F := F) c (true, 2, 3)
            ∗ slotPts fullShare (lbuf 2) c 3 (inV X Y 2 c 3)
            ∗ winP cc0_stg2_0 c (acc X Y c f 2 3)) -∗ Kt ⟨⟩))
      ⊢ wp frame (wpE (defs₀ (F := F)) 𝒱₀ c none) Set.univ
          (k0_part21 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v22 v622 c4_i32_511) Kt := by
  rw [k0_part21_eq_skeleton]; unfold k0_part21_skel
  simp only [semSignalWord, semWaitWord, Prog.lift, Prog.bind_op, Prog.bind_ret, Prog.pure_eq_ret]
  iintro ⟨#HR, #Hl, how, hrk23, hout, Hk⟩
  iapply (recv_step X Y K c 2 3 19 (by decide) rfl (credit_l 2 3))
  isplitr; · iexact HR
  isplitr; · iexact Hl
  isplitl [how]; · iexact how
  isplitl [hrk23]; · iexact hrk23
  iintro ⟨how, hzr23, hkeep23⟩
  iapply (o_load c)
  isplitl [hout]; · iexact hout
  iintro hout
  iapply (slot_load c fullShare (lbuf 2) 3 (inV X Y 2 c 3) rfl rfl)
  isplitl [hkeep23]; · iexact hkeep23
  iintro hkeep23
  iapply (o_load c)
  isplitl [hout]; · iexact hout
  iintro hout
  iapply (o_store c (acc X Y c f 2 3) (f := f) (r := (Rect.unit (s := S4x256x1024) (k0_off20 c) S1x64x1024.size (k0_off20_inb c))) (w := k0_pay23 ((oM.access (Rect.unit (s := S4x256x1024) (k0_off20 c) S1x64x1024.size (k0_off20_inb c))).read (Elt F) f) (inV X Y 2 c 3)) rfl)
  isplitl [hout]; · iexact hout
  iintro hout
  rw [wp_ret]; imodintro; iapply Hk
  isplitl [how]; · iexact how
  isplitl [hzr23]; · iexact hzr23
  isplitl [hkeep23]; · iexact hkeep23
  iexact hout

/-- Part 22 of the body. -/
theorem part22 (v2 v8 v14 v26 : BitVec 32) (f : OT F) {Kt : _ → sProp 𝕄} :
    iprop(recs X Y K ∗ levAts L lv ∗ ow (F := F) c (due 19)
        ∗ recvKit (F := F) c 3 0
        ∗ winP cc0_stg2_0 c f
        ∗ recvKit (F := F) c 3 1
        ∗ (∀ (w1 : BitVec 32), (shut (F := F) c (true, 3, 0)
            ∗ slotPts fullShare (lbuf 3) c 0 (inV X Y 3 c 0)
            ∗ winP cc0_stg2_0 c (acc X Y c f 3 0)
            ∗ ow (F := F) c (due 19)
            ∗ shut (F := F) c (true, 3, 1)
            ∗ slotPts fullShare (lbuf 3) c 1 (inV X Y 3 c 1)) -∗ Kt ⟨w1, k0_pay25 ((oM.access (Rect.unit (s := S4x256x1024) (k0_off22 c) S1x64x1024.size (k0_off22_inb c))).read (Elt F) (acc X Y c f 3 0)), k0_pay26 (inV X Y 3 c 1)⟩))
      ⊢ wp frame (wpE (defs₀ (F := F)) 𝒱₀ c none) Set.univ
          (k0_part22 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v26) Kt := by
  rw [k0_part22_eq_skeleton]; unfold k0_part22_skel
  simp only [semSignalWord, semWaitWord, Prog.lift, Prog.bind_op, Prog.bind_ret, Prog.pure_eq_ret]
  iintro ⟨#HR, #Hl, how, hrk30, hout, hrk31, Hk⟩
  iapply (recv_step X Y K c 3 0 19 (by decide) rfl (credit_l 3 0))
  isplitr; · iexact HR
  isplitr; · iexact Hl
  isplitl [how]; · iexact how
  isplitl [hrk30]; · iexact hrk30
  iintro ⟨how, hzr30, hkeep30⟩
  iapply (o_load c)
  isplitl [hout]; · iexact hout
  iintro hout
  iapply (slot_load c fullShare (lbuf 3) 0 (inV X Y 3 c 0) rfl rfl)
  isplitl [hkeep30]; · iexact hkeep30
  iintro hkeep30
  iapply (o_load c)
  isplitl [hout]; · iexact hout
  iintro hout
  iapply (o_store c (acc X Y c f 3 0) (f := f) (r := (Rect.unit (s := S4x256x1024) (k0_off21 c) S1x64x1024.size (k0_off21_inb c))) (w := k0_pay24 ((oM.access (Rect.unit (s := S4x256x1024) (k0_off21 c) S1x64x1024.size (k0_off21_inb c))).read (Elt F) f) (inV X Y 3 c 0)) rfl)
  isplitl [hout]; · iexact hout
  iintro hout
  iapply (recv_step X Y K c 3 1 19 (by decide) rfl (credit_l 3 1))
  isplitr; · iexact HR
  isplitr; · iexact Hl
  isplitl [how]; · iexact how
  isplitl [hrk31]; · iexact hrk31
  iintro ⟨how, hzr31, hkeep31⟩
  iapply (o_load c)
  isplitl [hout]; · iexact hout
  iintro hout
  iapply (slot_load c fullShare (lbuf 3) 1 (inV X Y 3 c 1) rfl rfl)
  isplitl [hkeep31]; · iexact hkeep31
  iintro hkeep31
  rw [wp_ret]; imodintro; iapply Hk
  isplitl [hzr30]; · iexact hzr30
  isplitl [hkeep30]; · iexact hkeep30
  isplitl [hout]; · iexact hout
  isplitl [how]; · iexact how
  isplitl [hzr31]; · iexact hzr31
  iexact hkeep31

/-- Part 23 of the body. -/
theorem part23 (v2 v8 v14 v26 v681 : BitVec 32) (f : OT F) {Kt : _ → sProp 𝕄} :
    iprop(recs X Y K ∗ levAts L lv ∗ winP cc0_stg2_0 c f
        ∗ ow (F := F) c (due 19)
        ∗ recvKit (F := F) c 3 2
        ∗ (∀ (w1 : BitVec 32), (ow (F := F) c (due 19)
            ∗ shut (F := F) c (true, 3, 2)
            ∗ slotPts fullShare (lbuf 3) c 2 (inV X Y 3 c 2)
            ∗ winP cc0_stg2_0 c (acc X Y c (acc X Y c f 3 1) 3 2)) -∗ Kt w1))
      ⊢ wp frame (wpE (defs₀ (F := F)) 𝒱₀ c none) Set.univ
          (k0_part23 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v26 v681 (k0_pay25 ((oM.access (Rect.unit (s := S4x256x1024) (k0_off22 c) S1x64x1024.size (k0_off22_inb c))).read (Elt F) f)) (k0_pay26 (inV X Y 3 c 1))) Kt := by
  rw [k0_part23_eq_skeleton]; unfold k0_part23_skel
  simp only [semSignalWord, semWaitWord, Prog.lift, Prog.bind_op, Prog.bind_ret, Prog.pure_eq_ret]
  iintro ⟨#HR, #Hl, hout, how, hrk32, Hk⟩
  iapply (o_load c)
  isplitl [hout]; · iexact hout
  iintro hout
  iapply (o_store c (acc X Y c f 3 1) (f := f) (r := (Rect.unit (s := S4x256x1024) (k0_off22 c) S1x64x1024.size (k0_off22_inb c))) (w := k0_pay27 (k0_pay25 ((oM.access (Rect.unit (s := S4x256x1024) (k0_off22 c) S1x64x1024.size (k0_off22_inb c))).read (Elt F) f)) (k0_pay26 (inV X Y 3 c 1))) rfl)
  isplitl [hout]; · iexact hout
  iintro hout
  iapply (recv_step X Y K c 3 2 19 (by decide) rfl (credit_l 3 2))
  isplitr; · iexact HR
  isplitr; · iexact Hl
  isplitl [how]; · iexact how
  isplitl [hrk32]; · iexact hrk32
  iintro ⟨how, hzr32, hkeep32⟩
  iapply (o_load c)
  isplitl [hout]; · iexact hout
  iintro hout
  iapply (slot_load c fullShare (lbuf 3) 2 (inV X Y 3 c 2) rfl rfl)
  isplitl [hkeep32]; · iexact hkeep32
  iintro hkeep32
  iapply (o_load c)
  isplitl [hout]; · iexact hout
  iintro hout
  iapply (o_store c (acc X Y c (acc X Y c f 3 1) 3 2) (f := (acc X Y c f 3 1)) (r := (Rect.unit (s := S4x256x1024) (k0_off23 c) S1x64x1024.size (k0_off23_inb c))) (w := k0_pay28 ((oM.access (Rect.unit (s := S4x256x1024) (k0_off23 c) S1x64x1024.size (k0_off23_inb c))).read (Elt F) (acc X Y c f 3 1)) (inV X Y 3 c 2)) rfl)
  isplitl [hout]; · iexact hout
  iintro hout
  rw [wp_ret]; imodintro; iapply Hk
  isplitl [how]; · iexact how
  isplitl [hzr32]; · iexact hzr32
  isplitl [hkeep32]; · iexact hkeep32
  iexact hout

/-- Part 24 of the body. -/
theorem part24 (v2 v8 v14 v26 c8_i32_589 : BitVec 32) (f : OT F) {Kt : _ → sProp 𝕄} :
    iprop(recs X Y K ∗ levAts L lv ∗ ow (F := F) c (due 19)
        ∗ recvKit (F := F) c 3 3
        ∗ winP cc0_stg2_0 c f
        ∗ flying (F := F) c 0 0
        ∗ ((shut (F := F) c (true, 3, 3)
            ∗ slotPts fullShare (lbuf 3) c 3 (inV X Y 3 c 3)
            ∗ winP cc0_stg2_0 c (acc X Y c f 3 3)
            ∗ ow (F := F) c (due 19)
            ∗ shut (F := F) c (false, 0, 0)
            ∗ slotPts (sq 0) (sbuf 0) c 0 (outV X Y 0 c 0)) -∗ Kt ⟨⟩))
      ⊢ wp frame (wpE (defs₀ (F := F)) 𝒱₀ c none) Set.univ
          (k0_part24 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v8 v14 v26 c8_i32_589) Kt := by
  rw [k0_part24_eq_skeleton]; unfold k0_part24_skel
  simp only [semSignalWord, semWaitWord, Prog.lift, Prog.bind_op, Prog.bind_ret, Prog.pure_eq_ret]
  iintro ⟨#HR, #Hl, how, hrk33, hout, hfly00, Hk⟩
  iapply (recv_step X Y K c 3 3 19 (by decide) rfl (credit_l 3 3))
  isplitr; · iexact HR
  isplitr; · iexact Hl
  isplitl [how]; · iexact how
  isplitl [hrk33]; · iexact hrk33
  iintro ⟨how, hzr33, hkeep33⟩
  iapply (o_load c)
  isplitl [hout]; · iexact hout
  iintro hout
  iapply (slot_load c fullShare (lbuf 3) 3 (inV X Y 3 c 3) rfl rfl)
  isplitl [hkeep33]; · iexact hkeep33
  iintro hkeep33
  iapply (o_load c)
  isplitl [hout]; · iexact hout
  iintro hout
  iapply (o_store c (acc X Y c f 3 3) (f := f) (r := (Rect.unit (s := S4x256x1024) (k0_off24 c) S1x64x1024.size (k0_off24_inb c))) (w := k0_pay29 ((oM.access (Rect.unit (s := S4x256x1024) (k0_off24 c) S1x64x1024.size (k0_off24_inb c))).read (Elt F) f) (inV X Y 3 c 3)) rfl)
  isplitl [hout]; · iexact hout
  iintro hout
  iapply (sent_step X Y K c 0 0 rfl (credit_s 0 0))
  isplitr; · iexact HR
  isplitr; · iexact Hl
  isplitl [how]; · iexact how
  isplitl [hfly00]; · iexact hfly00
  iintro ⟨how, hzs00, hsrc00⟩
  rw [wp_ret]; imodintro; iapply Hk
  isplitl [hzr33]; · iexact hzr33
  isplitl [hkeep33]; · iexact hkeep33
  isplitl [hout]; · iexact hout
  isplitl [how]; · iexact how
  isplitl [hzs00]; · iexact hzs00
  iexact hsrc00

/-- Part 25 of the body. -/
theorem part25 {Kt : _ → sProp 𝕄} :
    iprop(recs X Y K ∗ levAts L lv ∗ ow (F := F) c (due 19)
        ∗ flying (F := F) c 1 0
        ∗ flying (F := F) c 2 0
        ∗ flying (F := F) c 3 0
        ∗ ((shut (F := F) c (false, 1, 0)
            ∗ slotPts (sq 1) (sbuf 1) c 0 (outV X Y 1 c 0)
            ∗ shut (F := F) c (false, 2, 0)
            ∗ slotPts (sq 2) (sbuf 2) c 0 (outV X Y 2 c 0)
            ∗ ow (F := F) c (due 19)
            ∗ shut (F := F) c (false, 3, 0)
            ∗ slotPts (sq 3) (sbuf 3) c 0 (outV X Y 3 c 0)) -∗ Kt ⟨⟩))
      ⊢ wp frame (wpE (defs₀ (F := F)) 𝒱₀ c none) Set.univ
          (k0_part25 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  rw [k0_part25_eq_skeleton]; unfold k0_part25_skel
  simp only [semSignalWord, semWaitWord, Prog.lift, Prog.bind_op, Prog.bind_ret, Prog.pure_eq_ret]
  iintro ⟨#HR, #Hl, how, hfly10, hfly20, hfly30, Hk⟩
  iapply (sent_step X Y K c 1 0 rfl (credit_s 1 0))
  isplitr; · iexact HR
  isplitr; · iexact Hl
  isplitl [how]; · iexact how
  isplitl [hfly10]; · iexact hfly10
  iintro ⟨how, hzs10, hsrc10⟩
  iapply (sent_step X Y K c 2 0 rfl (credit_s 2 0))
  isplitr; · iexact HR
  isplitr; · iexact Hl
  isplitl [how]; · iexact how
  isplitl [hfly20]; · iexact hfly20
  iintro ⟨how, hzs20, hsrc20⟩
  iapply (sent_step X Y K c 3 0 rfl (credit_s 3 0))
  isplitr; · iexact HR
  isplitr; · iexact Hl
  isplitl [how]; · iexact how
  isplitl [hfly30]; · iexact hfly30
  iintro ⟨how, hzs30, hsrc30⟩
  rw [wp_ret]; imodintro; iapply Hk
  isplitl [hzs10]; · iexact hzs10
  isplitl [hsrc10]; · iexact hsrc10
  isplitl [hzs20]; · iexact hzs20
  isplitl [hsrc20]; · iexact hsrc20
  isplitl [how]; · iexact how
  isplitl [hzs30]; · iexact hzs30
  iexact hsrc30

/-- Part 26 of the body. -/
theorem part26 {Kt : _ → sProp 𝕄} :
    iprop(recs X Y K ∗ levAts L lv ∗ ow (F := F) c (due 19)
        ∗ flying (F := F) c 0 1
        ∗ flying (F := F) c 1 1
        ∗ flying (F := F) c 2 1
        ∗ flying (F := F) c 3 1
        ∗ ((shut (F := F) c (false, 0, 1)
            ∗ slotPts (sq 0) (sbuf 0) c 1 (outV X Y 0 c 1)
            ∗ shut (F := F) c (false, 1, 1)
            ∗ slotPts (sq 1) (sbuf 1) c 1 (outV X Y 1 c 1)
            ∗ shut (F := F) c (false, 2, 1)
            ∗ slotPts (sq 2) (sbuf 2) c 1 (outV X Y 2 c 1)
            ∗ ow (F := F) c (due 19)
            ∗ shut (F := F) c (false, 3, 1)
            ∗ slotPts (sq 3) (sbuf 3) c 1 (outV X Y 3 c 1)) -∗ Kt ⟨⟩))
      ⊢ wp frame (wpE (defs₀ (F := F)) 𝒱₀ c none) Set.univ
          (k0_part26 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  rw [k0_part26_eq_skeleton]; unfold k0_part26_skel
  simp only [semSignalWord, semWaitWord, Prog.lift, Prog.bind_op, Prog.bind_ret, Prog.pure_eq_ret]
  iintro ⟨#HR, #Hl, how, hfly01, hfly11, hfly21, hfly31, Hk⟩
  iapply (sent_step X Y K c 0 1 rfl (credit_s 0 1))
  isplitr; · iexact HR
  isplitr; · iexact Hl
  isplitl [how]; · iexact how
  isplitl [hfly01]; · iexact hfly01
  iintro ⟨how, hzs01, hsrc01⟩
  iapply (sent_step X Y K c 1 1 rfl (credit_s 1 1))
  isplitr; · iexact HR
  isplitr; · iexact Hl
  isplitl [how]; · iexact how
  isplitl [hfly11]; · iexact hfly11
  iintro ⟨how, hzs11, hsrc11⟩
  iapply (sent_step X Y K c 2 1 rfl (credit_s 2 1))
  isplitr; · iexact HR
  isplitr; · iexact Hl
  isplitl [how]; · iexact how
  isplitl [hfly21]; · iexact hfly21
  iintro ⟨how, hzs21, hsrc21⟩
  iapply (sent_step X Y K c 3 1 rfl (credit_s 3 1))
  isplitr; · iexact HR
  isplitr; · iexact Hl
  isplitl [how]; · iexact how
  isplitl [hfly31]; · iexact hfly31
  iintro ⟨how, hzs31, hsrc31⟩
  rw [wp_ret]; imodintro; iapply Hk
  isplitl [hzs01]; · iexact hzs01
  isplitl [hsrc01]; · iexact hsrc01
  isplitl [hzs11]; · iexact hzs11
  isplitl [hsrc11]; · iexact hsrc11
  isplitl [hzs21]; · iexact hzs21
  isplitl [hsrc21]; · iexact hsrc21
  isplitl [how]; · iexact how
  isplitl [hzs31]; · iexact hzs31
  iexact hsrc31

/-- Part 27 of the body. -/
theorem part27 {Kt : _ → sProp 𝕄} :
    iprop(recs X Y K ∗ levAts L lv ∗ ow (F := F) c (due 19)
        ∗ flying (F := F) c 0 2
        ∗ flying (F := F) c 1 2
        ∗ flying (F := F) c 2 2
        ∗ flying (F := F) c 3 2
        ∗ ((shut (F := F) c (false, 0, 2)
            ∗ slotPts (sq 0) (sbuf 0) c 2 (outV X Y 0 c 2)
            ∗ shut (F := F) c (false, 1, 2)
            ∗ slotPts (sq 1) (sbuf 1) c 2 (outV X Y 1 c 2)
            ∗ shut (F := F) c (false, 2, 2)
            ∗ slotPts (sq 2) (sbuf 2) c 2 (outV X Y 2 c 2)
            ∗ ow (F := F) c (due 19)
            ∗ shut (F := F) c (false, 3, 2)
            ∗ slotPts (sq 3) (sbuf 3) c 2 (outV X Y 3 c 2)) -∗ Kt ⟨⟩))
      ⊢ wp frame (wpE (defs₀ (F := F)) 𝒱₀ c none) Set.univ
          (k0_part27 xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  rw [k0_part27_eq_skeleton]; unfold k0_part27_skel
  simp only [semSignalWord, semWaitWord, Prog.lift, Prog.bind_op, Prog.bind_ret, Prog.pure_eq_ret]
  iintro ⟨#HR, #Hl, how, hfly02, hfly12, hfly22, hfly32, Hk⟩
  iapply (sent_step X Y K c 0 2 rfl (credit_s 0 2))
  isplitr; · iexact HR
  isplitr; · iexact Hl
  isplitl [how]; · iexact how
  isplitl [hfly02]; · iexact hfly02
  iintro ⟨how, hzs02, hsrc02⟩
  iapply (sent_step X Y K c 1 2 rfl (credit_s 1 2))
  isplitr; · iexact HR
  isplitr; · iexact Hl
  isplitl [how]; · iexact how
  isplitl [hfly12]; · iexact hfly12
  iintro ⟨how, hzs12, hsrc12⟩
  iapply (sent_step X Y K c 2 2 rfl (credit_s 2 2))
  isplitr; · iexact HR
  isplitr; · iexact Hl
  isplitl [how]; · iexact how
  isplitl [hfly22]; · iexact hfly22
  iintro ⟨how, hzs22, hsrc22⟩
  iapply (sent_step X Y K c 3 2 rfl (credit_s 3 2))
  isplitr; · iexact HR
  isplitr; · iexact Hl
  isplitl [how]; · iexact how
  isplitl [hfly32]; · iexact hfly32
  iintro ⟨how, hzs32, hsrc32⟩
  rw [wp_ret]; imodintro; iapply Hk
  isplitl [hzs02]; · iexact hzs02
  isplitl [hsrc02]; · iexact hsrc02
  isplitl [hzs12]; · iexact hzs12
  isplitl [hsrc12]; · iexact hsrc12
  isplitl [hzs22]; · iexact hzs22
  isplitl [hsrc22]; · iexact hsrc22
  isplitl [how]; · iexact how
  isplitl [hzs32]; · iexact hzs32
  iexact hsrc32

end Cert.KernelIdeal.Proto

end
-- ==== Proof.KernelIdeal.Run.lean ====
/-
  The run of the whole body at a symbolic device: its parts one after the other, from what a device holds when the region
  is entered to what it holds when the body returns.
-/
module

public import proofs.«01_k».proof.Proof.KernelIdeal.Body

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : XT F) (Y : YT F) (K : GSem nD τ sig → ℕ) (c : Dev nD)

/-- What device c sends and receives the copies of family a with. -/
def kits (c : Dev nD) (a : Fin 4) : sProp 𝕄 :=
  iprop((sendKit (F := F) c a 0 ∗ sendKit (F := F) c a 1 ∗ sendKit (F := F) c a 2 ∗ sendKit (F := F) c a 3)
    ∗ recvKit (F := F) c a 0 ∗ recvKit (F := F) c a 1 ∗ recvKit (F := F) c a 2 ∗ recvKit (F := F) c a 3)
/-- The four slots of a buffer. -/
def slots (B : Memref sig .tc .vmem S4x64x1024 .bf16) (c : Dev nD) : sProp 𝕄 :=
  iprop(slotAny (F := F) B c 0 ∗ slotAny (F := F) B c 1 ∗ slotAny (F := F) B c 2 ∗ slotAny (F := F) B c 3)
/-- The cells of family a closed. -/
def shuts (c : Dev nD) (a : Fin 4) : sProp 𝕄 :=
  iprop((shut (F := F) c (false, a, 0) ∗ shut (F := F) c (false, a, 1) ∗ shut (F := F) c (false, a, 2) ∗ shut (F := F) c (false, a, 3))
    ∗ shut (F := F) c (true, a, 0) ∗ shut (F := F) c (true, a, 1) ∗ shut (F := F) c (true, a, 2) ∗ shut (F := F) c (true, a, 3))

/-- What the body starts from. -/
def bodyIn (f : OT F) : sProp 𝕄 :=
  iprop(recs X Y K ∗ levAts L lv ∗ ow (F := F) c (due 0) ∗ (barTok (F := F) c 0 ∗ barTok (F := F) c 1 ∗ barTok (F := F) c 2)
    ∗ (cred (tallyAt (barCell c) () 3) ∗ atPos ER (barCell c) 0 ∅ 0)
    ∗ (kits (F := F) c 0 ∗ kits (F := F) c 1 ∗ kits (F := F) c 2 ∗ kits (F := F) c 3)
    ∗ (lend (F := F) 0 c ∗ lend (F := F) 1 c ∗ lend (F := F) 2 c ∗ lend (F := F) 3 c) ∗ slots (F := F) (sbuf 0) c
    ∗ winP cc0_stg0_0 c (X c) ∗ winP cc0_stg1_0 c (Y c) ∗ winP cc0_stg2_0 c f)
/-- What it ends with. -/
def bodyOut (f : OT F) : sProp 𝕄 :=
  iprop(ow (F := F) c (due 19) ∗ semVal (barCell c) 0
    ∗ (shuts (F := F) c 0 ∗ shuts (F := F) c 1 ∗ shuts (F := F) c 2 ∗ shuts (F := F) c 3)
    ∗ (slots (F := F) (sbuf 0) c ∗ slots (F := F) (lbuf 0) c ∗ slots (F := F) (lbuf 1) c ∗ slots (F := F) (lbuf 2) c ∗ slots (F := F) (lbuf 3) c)
    ∗ winP cc0_stg0_0 c (X c) ∗ winP cc0_stg1_0 c (Y c) ∗ winP cc0_stg2_0 c (added X Y c (base X Y c f)))

theorem lend_peer (a : Fin 4) (p : Dev nD) (hp : p = peer a c) : lend (F := F) a p ⊢ iprop(ready (F := F) a (peer a c) 0 ∗ ready (F := F) a (peer a c) 1
    ∗ ready (F := F) a (peer a c) 2 ∗ ready (F := F) a (peer a c) 3) := by
  subst hp; exact Entails.of_eq rfl
theorem any_of (B : Memref sig .tc .vmem S4x64x1024 .bf16) (b : Fin 4) (v : Vec F S1x64x1024 .bf16) : slotPts fullShare B c b v ⊢ slotAny (F := F) B c b := by
  unfold slotAny
  iintro H; iexists v; iexact H
theorem any_sent (b : Fin 4) : slotPts (sq 0) (sbuf 0) c b (outV X Y 0 c b) ⊢ slotAny (F := F) (sbuf 0) c b := any_of c (sbuf 0) b _

set_option maxHeartbeats 4000000 in
/-- THE BODY at a symbolic device: from the four buffers lent and owned, through the exchange, to the result block. -/
theorem run_body (f : OT F) (Kt : PUnit → sProp 𝕄) :
    iprop(bodyIn X Y K c f ∗ (bodyOut X Y c f -∗ Kt ⟨⟩))
      ⊢ wp frame (wpE (defs₀ (F := F)) 𝒱₀ c none) Set.univ (cc0_body xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  rw [cc0_body_eq_skeleton]; unfold cc0_body_skel
  rw [k0_part28_eq_skeleton]; unfold k0_part28_skel
  simp only [Prog.lift, Prog.bind_op, Prog.bind_ret, Prog.pure_eq_ret]
  unfold bodyIn kits slots
  iintro ⟨⟨#HR, #Hl, how, ⟨hbt0, hbt1, hbt2⟩, ⟨hbarcred, hbaratpos⟩, ⟨⟨⟨hsk00, hsk01, hsk02, hsk03⟩, hrk00, hrk01, hrk02, hrk03⟩, ⟨⟨hsk10, hsk11, hsk12, hsk13⟩, hrk10, hrk11, hrk12, hrk13⟩, ⟨⟨hsk20, hsk21, hsk22, hsk23⟩, hrk20, hrk21, hrk22, hrk23⟩, ⟨⟨hsk30, hsk31, hsk32, hsk33⟩, hrk30, hrk31, hrk32, hrk33⟩⟩, ⟨hlend0, hlend1, hlend2, hlend3⟩, ⟨hany0, hany1, hany2, hany3⟩, hx, hy, hout⟩, Hk⟩
  rw [wp_bind]
  rw [wp_bind]
  iapply (part1 X Y K c)
  isplitr; · iexact HR
  isplitr; · iexact Hl
  isplitl [how]; · iexact how
  isplitl [hbt0]; · iexact hbt0
  isplitl [hlend0]; · iexact hlend0
  iintro %v2 %v5 %v8 %v10 %v13 %v14 %v16 %v19 %v22 %v26 how
  try dsimp only
  rw [wp_bind]
  iapply (part2 X Y K c _ _ _ _ _ _)
  isplitr; · iexact HR
  isplitr; · iexact Hl
  isplitl [how]; · iexact how
  isplitl [hbt1]; · iexact hbt1
  isplitl [hlend1]; · iexact hlend1
  isplitl [hbt2]; · iexact hbt2
  isplitl [hlend2]; · iexact hlend2
  isplitl [hlend3]; · iexact hlend3
  isplitl [hbarcred]; · iexact hbarcred
  isplitl [hbaratpos]; · iexact hbaratpos
  isplitl [hx]; · iexact hx
  isplitl [hy]; · iexact hy
  isplitl [hany0]; · iexact hany0
  iintro %w1_2 %w2_2 %w3_2 ⟨how, hbarshut, hlendp0, hlendp1, hlendp2, hlendp3, hx, hy, hsrc00⟩
  ihave hlendp0 := (lend_peer (F := F) c 0 (px c) rfl) $$ hlendp0
  icases hlendp0 with ⟨hrdy00, hrdy01, hrdy02, hrdy03⟩
  ihave hlendp1 := (lend_peer (F := F) c 1 (pz c) rfl) $$ hlendp1
  icases hlendp1 with ⟨hrdy10, hrdy11, hrdy12, hrdy13⟩
  ihave hlendp2 := (lend_peer (F := F) c 2 (ny c) rfl) $$ hlendp2
  icases hlendp2 with ⟨hrdy20, hrdy21, hrdy22, hrdy23⟩
  ihave hlendp3 := (lend_peer (F := F) c 3 (ny c) rfl) $$ hlendp3
  icases hlendp3 with ⟨hrdy30, hrdy31, hrdy32, hrdy33⟩
  try dsimp only
  rw [wp_bind]
  iapply (part3 X Y K c _ _ _ _ _ _)
  isplitr; · iexact HR
  isplitr; · iexact Hl
  isplitl [how]; · iexact how
  isplitl [hsk00]; · iexact hsk00
  isplitl [hsrc00]; · iexact hsrc00
  isplitl [hrdy00]; · iexact hrdy00
  isplitl [hx]; · iexact hx
  isplitl [hy]; · iexact hy
  isplitl [hany1]; · iexact hany1
  iintro ⟨how, hfly00, hx, hy, hsrc01⟩
  try dsimp only
  rw [wp_bind]
  iapply (part4 X Y K c _ _ _ _ _)
  isplitr; · iexact HR
  isplitr; · iexact Hl
  isplitl [how]; · iexact how
  isplitl [hsk01]; · iexact hsk01
  isplitl [hsrc01]; · iexact hsrc01
  isplitl [hrdy01]; · iexact hrdy01
  isplitl [hx]; · iexact hx
  isplitl [hy]; · iexact hy
  isplitl [hany2]; · iexact hany2
  isplitl [hsk02]; · iexact hsk02
  isplitl [hrdy02]; · iexact hrdy02
  iintro ⟨hfly01, hx, hy, how, hfly02⟩
  try dsimp only
  rw [wp_bind]
  iapply (part5 X Y K c _ _ _ _ _ _)
  isplitr; · iexact HR
  isplitr; · iexact Hl
  isplitl [hx]; · iexact hx
  isplitl [hy]; · iexact hy
  isplitl [hany3]; · iexact hany3
  isplitl [how]; · iexact how
  isplitl [hsk03]; · iexact hsk03
  isplitl [hrdy03]; · iexact hrdy03
  iintro ⟨hx, hy, how, hfly03⟩
  try dsimp only
  rw [wp_bind]
  iapply (part6 X Y K c _ _)
  isplitr; · iexact HR
  isplitr; · iexact Hl
  isplitl [hout]; · iexact hout
  isplitl [hx]; · iexact hx
  isplitl [hy]; · iexact hy
  iintro ⟨hx, hy, hout⟩
  try dsimp only
  rw [wp_bind]
  iapply (part7 X Y K c _ _ _ _ _ _)
  isplitr; · iexact HR
  isplitr; · iexact Hl
  isplitl [hout]; · iexact hout
  isplitl [how]; · iexact how
  isplitl [hrk00]; · iexact hrk00
  isplitl [hsk10]; · iexact hsk10
  isplitl [hrdy10]; · iexact hrdy10
  iintro %w1_7 %w2_7 ⟨hout, hzr00, hsrc20, hkeep00, how, hfly10⟩
  try dsimp only
  rw [wp_bind]
  iapply (part8 X Y K c _ _ _ _ _ _ _ _)
  isplitr; · iexact HR
  isplitr; · iexact Hl
  isplitl [how]; · iexact how
  isplitl [hsk20]; · iexact hsk20
  isplitl [hsrc20]; · iexact hsrc20
  isplitl [hrdy20]; · iexact hrdy20
  isplitl [hout]; · iexact hout
  isplitl [hkeep00]; · iexact hkeep00
  iintro ⟨how, hfly20, hkeep00, hout⟩
  try dsimp only
  rw [wp_bind]
  iapply (part9 X Y K c _ _ _ _ _)
  isplitr; · iexact HR
  isplitr; · iexact Hl
  isplitl [how]; · iexact how
  isplitl [hrk01]; · iexact hrk01
  isplitl [hsk11]; · iexact hsk11
  isplitl [hrdy11]; · iexact hrdy11
  isplitl [hsk21]; · iexact hsk21
  isplitl [hrdy21]; · iexact hrdy21
  iintro ⟨hzr01, hkeep01, hfly11, how, hfly21⟩
  try dsimp only
  rw [wp_bind]
  iapply (part10 X Y K c _ _ _ _ _ _ _)
  isplitr; · iexact HR
  isplitr; · iexact Hl
  isplitl [hout]; · iexact hout
  isplitl [hkeep01]; · iexact hkeep01
  isplitl [how]; · iexact how
  isplitl [hrk02]; · iexact hrk02
  iintro ⟨hkeep01, hout, how, hzr02, hsrc12, hsrc22, hkeep02⟩
  try dsimp only
  rw [wp_bind]
  iapply (part11 X Y K c _ _ _ _ _)
  isplitr; · iexact HR
  isplitr; · iexact Hl
  isplitl [how]; · iexact how
  isplitl [hsk12]; · iexact hsk12
  isplitl [hsrc12]; · iexact hsrc12
  isplitl [hrdy12]; · iexact hrdy12
  isplitl [hsk22]; · iexact hsk22
  isplitl [hsrc22]; · iexact hsrc22
  isplitl [hrdy22]; · iexact hrdy22
  isplitl [hout]; · iexact hout
  isplitl [hkeep02]; · iexact hkeep02
  iintro ⟨hfly12, how, hfly22, hout, hkeep02⟩
  try dsimp only
  rw [wp_bind]
  iapply (part12 X Y K c _ _ _ _ _ _)
  isplitr; · iexact HR
  isplitr; · iexact Hl
  isplitl [hout]; · iexact hout
  isplitl [how]; · iexact how
  isplitl [hrk03]; · iexact hrk03
  isplitl [hsk13]; · iexact hsk13
  isplitl [hrdy13]; · iexact hrdy13
  iintro %w1_12 %w2_12 ⟨hout, hzr03, hsrc23, hkeep03, how, hfly13⟩
  try dsimp only
  rw [wp_bind]
  iapply (part13 X Y K c _ _ _ _ _ _ _ _ _)
  isplitr; · iexact HR
  isplitr; · iexact Hl
  isplitl [how]; · iexact how
  isplitl [hsk23]; · iexact hsk23
  isplitl [hsrc23]; · iexact hsrc23
  isplitl [hrdy23]; · iexact hrdy23
  isplitl [hout]; · iexact hout
  isplitl [hkeep03]; · iexact hkeep03
  iintro ⟨how, hfly23, hkeep03, hout⟩
  try dsimp only
  rw [wp_bind]
  iapply (part14 X Y K c _ _ _ _ _)
  isplitr; · iexact HR
  isplitr; · iexact Hl
  isplitl [how]; · iexact how
  isplitl [hrk10]; · iexact hrk10
  isplitl [hsk30]; · iexact hsk30
  isplitl [hrdy30]; · iexact hrdy30
  isplitl [hout]; · iexact hout
  iintro %w1_14 ⟨hzr10, hkeep10, how, hfly30, hout⟩
  try dsimp only
  rw [wp_bind]
  iapply (part15 X Y K c _ _ _ _ _ _ _ _)
  isplitr; · iexact HR
  isplitr; · iexact Hl
  isplitl [how]; · iexact how
  isplitl [hrk11]; · iexact hrk11
  isplitl [hsk31]; · iexact hsk31
  isplitl [hrdy31]; · iexact hrdy31
  isplitl [hout]; · iexact hout
  iintro %w1_15 ⟨hzr11, hkeep11, how, hfly31, hout⟩
  try dsimp only
  rw [wp_bind]
  iapply (part16 X Y K c _ _ _ _ _ _ _)
  isplitr; · iexact HR
  isplitr; · iexact Hl
  isplitl [hout]; · iexact hout
  isplitl [how]; · iexact how
  isplitl [hrk12]; · iexact hrk12
  isplitl [hsk32]; · iexact hsk32
  isplitl [hrdy32]; · iexact hrdy32
  iintro %w1_16 ⟨hout, hzr12, hkeep12, how, hfly32⟩
  try dsimp only
  rw [wp_bind]
  iapply (part17 X Y K c _ _ _ _ _ _ _ _)
  isplitr; · iexact HR
  isplitr; · iexact Hl
  isplitl [hout]; · iexact hout
  isplitl [hkeep12]; · iexact hkeep12
  isplitl [how]; · iexact how
  isplitl [hrk13]; · iexact hrk13
  iintro ⟨hkeep12, hout, how, hzr13, hsrc33, hkeep13⟩
  try dsimp only
  rw [wp_bind]
  iapply (part18 X Y K c _ _ _ _ _ _)
  isplitr; · iexact HR
  isplitr; · iexact Hl
  isplitl [how]; · iexact how
  isplitl [hsk33]; · iexact hsk33
  isplitl [hsrc33]; · iexact hsrc33
  isplitl [hrdy33]; · iexact hrdy33
  isplitl [hout]; · iexact hout
  isplitl [hkeep13]; · iexact hkeep13
  isplitl [hrk20]; · iexact hrk20
  iintro %w1_18 ⟨hfly33, hkeep13, hout, how, hzr20, hkeep20⟩
  try dsimp only
  rw [wp_bind]
  iapply (part19 X Y K c _ _ _ _ _ _)
  isplitr; · iexact HR
  isplitr; · iexact Hl
  isplitl [hout]; · iexact hout
  isplitl [hkeep20]; · iexact hkeep20
  isplitl [how]; · iexact how
  isplitl [hrk21]; · iexact hrk21
  iintro ⟨hkeep20, hout, how, hzr21, hkeep21⟩
  try dsimp only
  rw [wp_bind]
  iapply (part20 X Y K c _ _ _ _ _)
  isplitr; · iexact HR
  isplitr; · iexact Hl
  isplitl [hout]; · iexact hout
  isplitl [how]; · iexact how
  isplitl [hrk22]; · iexact hrk22
  iintro %w1_20 %w2_20 ⟨how, hzr22, hkeep22, hout⟩
  try dsimp only
  rw [wp_bind]
  iapply (part21 X Y K c _ _ _ _ _ _ _)
  isplitr; · iexact HR
  isplitr; · iexact Hl
  isplitl [how]; · iexact how
  isplitl [hrk23]; · iexact hrk23
  isplitl [hout]; · iexact hout
  iintro ⟨how, hzr23, hkeep23, hout⟩
  try dsimp only
  rw [wp_bind]
  iapply (part22 X Y K c _ _ _ _ _)
  isplitr; · iexact HR
  isplitr; · iexact Hl
  isplitl [how]; · iexact how
  isplitl [hrk30]; · iexact hrk30
  isplitl [hout]; · iexact hout
  isplitl [hrk31]; · iexact hrk31
  iintro %w1_22 ⟨hzr30, hkeep30, hout, how, hzr31, hkeep31⟩
  try dsimp only
  rw [wp_bind]
  iapply (part23 X Y K c _ _ _ _ _ _)
  isplitr; · iexact HR
  isplitr; · iexact Hl
  isplitl [hout]; · iexact hout
  isplitl [how]; · iexact how
  isplitl [hrk32]; · iexact hrk32
  iintro %w1_23 ⟨how, hzr32, hkeep32, hout⟩
  try dsimp only
  rw [wp_bind]
  iapply (part24 X Y K c _ _ _ _ _ _)
  isplitr; · iexact HR
  isplitr; · iexact Hl
  isplitl [how]; · iexact how
  isplitl [hrk33]; · iexact hrk33
  isplitl [hout]; · iexact hout
  isplitl [hfly00]; · iexact hfly00
  iintro ⟨hzr33, hkeep33, hout, how, hzs00, hsrc00⟩
  try dsimp only
  rw [wp_bind]
  iapply (part25 X Y K c)
  isplitr; · iexact HR
  isplitr; · iexact Hl
  isplitl [how]; · iexact how
  isplitl [hfly10]; · iexact hfly10
  isplitl [hfly20]; · iexact hfly20
  isplitl [hfly30]; · iexact hfly30
  iintro ⟨hzs10, hsrc10, hzs20, hsrc20, how, hzs30, hsrc30⟩
  try dsimp only
  rw [wp_bind]
  iapply (part26 X Y K c)
  isplitr; · iexact HR
  isplitr; · iexact Hl
  isplitl [how]; · iexact how
  isplitl [hfly01]; · iexact hfly01
  isplitl [hfly11]; · iexact hfly11
  isplitl [hfly21]; · iexact hfly21
  isplitl [hfly31]; · iexact hfly31
  iintro ⟨hzs01, hsrc01, hzs11, hsrc11, hzs21, hsrc21, how, hzs31, hsrc31⟩
  try dsimp only
  rw [wp_bind]
  iapply (part27 X Y K c)
  isplitr; · iexact HR
  isplitr; · iexact Hl
  isplitl [how]; · iexact how
  isplitl [hfly02]; · iexact hfly02
  isplitl [hfly12]; · iexact hfly12
  isplitl [hfly22]; · iexact hfly22
  isplitl [hfly32]; · iexact hfly32
  iintro ⟨hzs02, hsrc02, hzs12, hsrc12, hzs22, hsrc22, how, hzs32, hsrc32⟩
  try dsimp only
  iapply (sent_step X Y K c 0 3 rfl (credit_s 0 3))
  isplitr; · iexact HR
  isplitr; · iexact Hl
  isplitl [how]; · iexact how
  isplitl [hfly03]; · iexact hfly03
  iintro ⟨how, hzs03, hsrc03⟩
  iapply (sent_step X Y K c 1 3 rfl (credit_s 1 3))
  isplitr; · iexact HR
  isplitr; · iexact Hl
  isplitl [how]; · iexact how
  isplitl [hfly13]; · iexact hfly13
  iintro ⟨how, hzs13, hsrc13⟩
  rw [wp_ret]; imodintro
  iapply (sent_step X Y K c 2 3 rfl (credit_s 2 3))
  isplitr; · iexact HR
  isplitr; · iexact Hl
  isplitl [how]; · iexact how
  isplitl [hfly23]; · iexact hfly23
  iintro ⟨how, hzs23, hsrc23⟩
  iapply (sent_step X Y K c 3 3 rfl (credit_s 3 3))
  isplitr; · iexact HR
  isplitr; · iexact Hl
  isplitl [how]; · iexact how
  isplitl [hfly33]; · iexact hfly33
  iintro ⟨how, hzs33, hsrc33⟩
  rw [wp_ret]; imodintro; iapply Hk
  unfold bodyOut shuts slots
  isplitl [how]; · iexact how
  isplitl [hbarshut]; · iexact hbarshut
  isplitl [hzs00 hzs01 hzs02 hzs03 hzr00 hzr01 hzr02 hzr03 hzs10 hzs11 hzs12 hzs13 hzr10 hzr11 hzr12 hzr13 hzs20 hzs21 hzs22 hzs23 hzr20 hzr21 hzr22 hzr23 hzs30 hzs31 hzs32 hzs33 hzr30 hzr31 hzr32 hzr33]
  · isplitl [hzs00 hzs01 hzs02 hzs03 hzr00 hzr01 hzr02 hzr03]
    · isplitl [hzs00 hzs01 hzs02 hzs03]
      · isplitl [hzs00]; · iexact hzs00
        isplitl [hzs01]; · iexact hzs01
        isplitl [hzs02]; · iexact hzs02
        iexact hzs03
      isplitl [hzr00]; · iexact hzr00
      isplitl [hzr01]; · iexact hzr01
      isplitl [hzr02]; · iexact hzr02
      iexact hzr03
    isplitl [hzs10 hzs11 hzs12 hzs13 hzr10 hzr11 hzr12 hzr13]
    · isplitl [hzs10 hzs11 hzs12 hzs13]
      · isplitl [hzs10]; · iexact hzs10
        isplitl [hzs11]; · iexact hzs11
        isplitl [hzs12]; · iexact hzs12
        iexact hzs13
      isplitl [hzr10]; · iexact hzr10
      isplitl [hzr11]; · iexact hzr11
      isplitl [hzr12]; · iexact hzr12
      iexact hzr13
    isplitl [hzs20 hzs21 hzs22 hzs23 hzr20 hzr21 hzr22 hzr23]
    · isplitl [hzs20 hzs21 hzs22 hzs23]
      · isplitl [hzs20]; · iexact hzs20
        isplitl [hzs21]; · iexact hzs21
        isplitl [hzs22]; · iexact hzs22
        iexact hzs23
      isplitl [hzr20]; · iexact hzr20
      isplitl [hzr21]; · iexact hzr21
      isplitl [hzr22]; · iexact hzr22
      iexact hzr23
    isplitl [hzs30 hzs31 hzs32 hzs33]
    · isplitl [hzs30]; · iexact hzs30
      isplitl [hzs31]; · iexact hzs31
      isplitl [hzs32]; · iexact hzs32
      iexact hzs33
    isplitl [hzr30]; · iexact hzr30
    isplitl [hzr31]; · iexact hzr31
    isplitl [hzr32]; · iexact hzr32
    iexact hzr33
  isplitl [hsrc00 hsrc01 hsrc02 hsrc03 hsrc10 hsrc11 hsrc12 hsrc13 hsrc20 hsrc21 hsrc22 hsrc23 hsrc30 hsrc31 hsrc32 hsrc33 hkeep00 hkeep01 hkeep02 hkeep03 hkeep10 hkeep11 hkeep12 hkeep13 hkeep20 hkeep21 hkeep22 hkeep23 hkeep30 hkeep31 hkeep32 hkeep33]
  · isplitl [hsrc00 hsrc01 hsrc02 hsrc03]
    · isplitl [hsrc00]
      · iapply (any_sent X Y c 0)
        iexact hsrc00
      isplitl [hsrc01]
      · iapply (any_sent X Y c 1)
        iexact hsrc01
      isplitl [hsrc02]
      · iapply (any_sent X Y c 2)
        iexact hsrc02
      iapply (any_sent X Y c 3)
      iexact hsrc03
    isplitl [hsrc10 hsrc20 hkeep00 hsrc11 hsrc21 hkeep01 hsrc12 hsrc22 hkeep02 hsrc13 hsrc23 hkeep03]
    · isplitl [hsrc10 hsrc20 hkeep00]
      · iapply (join_x X Y c 0)
        isplitl [hsrc10]; · iexact hsrc10
        isplitl [hsrc20]; · iexact hsrc20
        iexact hkeep00
      isplitl [hsrc11 hsrc21 hkeep01]
      · iapply (join_x X Y c 1)
        isplitl [hsrc11]; · iexact hsrc11
        isplitl [hsrc21]; · iexact hsrc21
        iexact hkeep01
      isplitl [hsrc12 hsrc22 hkeep02]
      · iapply (join_x X Y c 2)
        isplitl [hsrc12]; · iexact hsrc12
        isplitl [hsrc22]; · iexact hsrc22
        iexact hkeep02
      iapply (join_x X Y c 3)
      isplitl [hsrc13]; · iexact hsrc13
      isplitl [hsrc23]; · iexact hsrc23
      iexact hkeep03
    isplitl [hsrc30 hkeep10 hsrc31 hkeep11 hsrc32 hkeep12 hsrc33 hkeep13]
    · isplitl [hsrc30 hkeep10]
      · iapply (join_z X Y c 0)
        isplitl [hsrc30]; · iexact hsrc30
        iexact hkeep10
      isplitl [hsrc31 hkeep11]
      · iapply (join_z X Y c 1)
        isplitl [hsrc31]; · iexact hsrc31
        iexact hkeep11
      isplitl [hsrc32 hkeep12]
      · iapply (join_z X Y c 2)
        isplitl [hsrc32]; · iexact hsrc32
        iexact hkeep12
      iapply (join_z X Y c 3)
      isplitl [hsrc33]; · iexact hsrc33
      iexact hkeep13
    isplitl [hkeep20 hkeep21 hkeep22 hkeep23]
    · isplitl [hkeep20]
      · iapply (any_of c (lbuf 2) 0 (inV X Y 2 c 0))
        iexact hkeep20
      isplitl [hkeep21]
      · iapply (any_of c (lbuf 2) 1 (inV X Y 2 c 1))
        iexact hkeep21
      isplitl [hkeep22]
      · iapply (any_of c (lbuf 2) 2 (inV X Y 2 c 2))
        iexact hkeep22
      iapply (any_of c (lbuf 2) 3 (inV X Y 2 c 3))
      iexact hkeep23
    isplitl [hkeep30]
    · iapply (any_of c (lbuf 3) 0 (inV X Y 3 c 0))
      iexact hkeep30
    isplitl [hkeep31]
    · iapply (any_of c (lbuf 3) 1 (inV X Y 3 c 1))
      iexact hkeep31
    isplitl [hkeep32]
    · iapply (any_of c (lbuf 3) 2 (inV X Y 3 c 2))
      iexact hkeep32
    iapply (any_of c (lbuf 3) 3 (inV X Y 3 c 3))
    iexact hkeep33
  isplitl [hx]; · iexact hx
  isplitl [hy]; · iexact hy
  ihave hout := (show winP cc0_stg2_0 c (acc X Y c (acc X Y c (acc X Y c (acc X Y c (acc X Y c (acc X Y c (acc X Y c (acc X Y c (acc X Y c (acc X Y c (acc X Y c (acc X Y c (acc X Y c (acc X Y c (acc X Y c (acc X Y c (putOwn X Y c (putOwn X Y c (putOwn X Y c (putOwn X Y c f 0) 1) 2) 3) 0 0) 0 1) 0 2) 0 3) 1 0) 1 1) 1 2) 1 3) 2 0) 2 1) 2 2) 2 3) 3 0) 3 1) 3 2) 3 3) ⊢ winP cc0_stg2_0 c (added X Y c (base X Y c f)) from Entails.of_eq rfl) $$ hout
  iexact hout

end Cert.KernelIdeal.Proto

end
-- ==== Proof.KernelIdeal.Slots.lean ====
/-
  A landing buffer as a whole and as its four slots: the slots are disjoint and cover the buffer.
-/
module

public import proofs.«01_k».proof.Proof.KernelIdeal.Run

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A family of four as a chain. -/
theorem sep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- Different slots share no element. -/
theorem slot_disjoint (B : Memref sig .tc .vmem S4x64x1024 .bf16) (b b' : Fin 4) (h : b ≠ b') :
    Disjoint (B.access (slotR b)).set (B.access (slotR b')).set := by
  refine View.disjoint_slice (v := B.view) (Rect.unit_disjoint (0 : Fin 3) ?_)
  have : b.val ≠ b'.val := fun e => h (Fin.ext e)
  show b.val + 1 ≤ b'.val ∨ b'.val + 1 ≤ b.val
  omega
/-- The slots cover the buffer. -/
theorem slot_cover (B : Memref sig .tc .vmem S4x64x1024 .bf16) :
    B.view.set = Finset.univ.biUnion fun b : Fin 4 => (B.access (slotR b)).set := by
  ext i
  simp only [Finset.mem_biUnion, Finset.mem_univ, true_and]
  constructor
  · intro hi
    obtain ⟨y, -, rfl⟩ := Finset.mem_map.mp hi
    have h1 : (y 1).val < 64 := (y 1).isLt
    have h2 : (y 2).val < 1024 := (y 2).isLt
    refine ⟨⟨(y 0).val, (y 0).isLt⟩, ?_⟩
    show _ ∈ (B.view.slice _).set
    rw [View.set_slice]
    refine Finset.mem_map_of_mem _ (Rect.mem_set_unit.mpr fun a => ?_)
    fin_cases a
    · exact ⟨le_rfl, Nat.lt_succ_self _⟩
    · exact ⟨Nat.zero_le _, by show (y 1).val < 0 + 64; omega⟩
    · exact ⟨Nat.zero_le _, by show (y 2).val < 0 + 1024; omega⟩
  · rintro ⟨b, hb⟩
    exact View.set_slice_subset B.view _ hb

theorem slot_intro (B : Memref sig .tc .vmem S4x64x1024 .bf16) (c : Dev nD) (b : Fin 4) (f : Buf (Elt F) (B.view.loc (c : Thread nD τ))) :
    (B.view.loc (c : Thread nD τ) ↦[(B.access (slotR b)).set]{fullShare} f : sProp 𝕄) ⊢ slotAny (F := F) B c b := by
  unfold slotAny slotPts
  iintro H
  iexists ((B.access (slotR b)).read (Elt F) f)
  iexists f
  isplitr; · ipureintro; rfl
  iexact H
/-- A buffer held whole is its four slots. -/
theorem slots_of_buffer (B : Memref sig .tc .vmem S4x64x1024 .bf16) (c : Dev nD) (f : Buf (Elt F) (B.view.loc (c : Thread nD τ))) :
    (B.view.loc (c : Thread nD τ) ↦[B.view.set]{fullShare} f : sProp 𝕄) ⊢ slots (F := F) B c := by
  rw [slot_cover]
  refine (Entails.of_eq (pointsTo_biUnion (ℓ := B.view.loc (c : Thread nD τ)) (q := fullShare) (f := f) Finset.univ
    (fun b : Fin 4 => (B.access (slotR b)).set) (fun b _ b' _ h => slot_disjoint B b b' h))).trans ?_
  exact (bigSep_mono fun b _ => slot_intro B c b f).trans (Entails.of_eq (sep_four (fun b => slotAny (F := F) B c b)))
/-- The four slots together are the buffer, at some contents. -/
theorem buffer_of_slots (B : Memref sig .tc .vmem S4x64x1024 .bf16) (c : Dev nD) :
    slots (F := F) B c ⊢ (iprop(∃ f : Buf (Elt F) (B.view.loc (c : Thread nD τ)), B.view.loc (c : Thread nD τ) ↦[B.view.set]{fullShare} f) : sProp 𝕄) := by
  unfold slots slotAny slotPts
  iintro ⟨⟨%v0, %f0, -, H0⟩, ⟨%v1, %f1, -, H1⟩, ⟨%v2, %f2, -, H2⟩, ⟨%v3, %f3, -, H3⟩⟩
  ihave H := (pointsTo_biUnion_join (Finset.univ : Finset (Fin 4)) (fun b : Fin 4 => (B.access (slotR b)).set)
    (fun b : Fin 4 => (match b with | 0 => f0 | 1 => f1 | 2 => f2 | 3 => f3 : Buf (Elt F) (B.view.loc (c : Thread nD τ)))) f0
    (fun b _ b' _ h => slot_disjoint B b b' h) (ℓ := B.view.loc (c : Thread nD τ)) (q := fullShare)) $$ [H0 H1 H2 H3]
  · rw [sep_four]
    isplitl [H0]; · iexact H0
    isplitl [H1]; · iexact H1
    isplitl [H2]; · iexact H2
    iexact H3
  icases H with ⟨%g, -, H⟩
  iexists g
  rw [slot_cover]
  iexact H

/-- One of the five buffers, held whole at some contents. -/
def scrAny (s : Ref sig .tc) (c : Dev nD) : sProp 𝕄 := iprop(∃ f : Buf (Elt F) ((c : Thread nD τ).loc s), (c : Thread nD τ).loc s ↦{fullShare} f)

/-- The five buffers whole. -/
def scrs (c : Dev nD) : sProp 𝕄 :=
  iprop(scrAny (F := F) cc0_scratch0 c ∗ scrAny (F := F) cc0_scratch1 c ∗ scrAny (F := F) cc0_scratch2 c ∗ scrAny (F := F) cc0_scratch3 c ∗ scrAny (F := F) cc0_scratch4 c)
/-- The five buffers by slots. -/
def allSlots (c : Dev nD) : sProp 𝕄 :=
  iprop(slots (F := F) (sbuf 0) c ∗ slots (F := F) (lbuf 0) c ∗ slots (F := F) (lbuf 1) c ∗ slots (F := F) (lbuf 2) c ∗ slots (F := F) (lbuf 3) c)

theorem scr_split (s : Ref sig .tc) (B : Memref sig .tc .vmem S4x64x1024 .bf16) (c : Dev nD)
    (hB : ∀ f : Buf (Elt F) ((c : Thread nD τ).loc s), ((c : Thread nD τ).loc s ↦{fullShare} f : sProp 𝕄) ⊢ slots (F := F) B c) :
    scrAny (F := F) s c ⊢ slots (F := F) B c := by
  unfold scrAny; iintro ⟨%f, H⟩; iapply (hB f); iexact H

theorem scrs_split (c : Dev nD) : scrs (F := F) c ⊢ allSlots (F := F) c := by
  have h0 : scrAny (F := F) cc0_scratch0 c ⊢ slots (F := F) (sbuf 0) c := scr_split _ _ c fun f =>
    (Entails.of_eq (by rw [View.set_whole])).trans (slots_of_buffer (F := F) (Memref.whole cc0_scratch0) c f)
  have h1 : scrAny (F := F) cc0_scratch1 c ⊢ slots (F := F) (lbuf 0) c := scr_split _ _ c fun f =>
    (Entails.of_eq (by rw [View.set_whole])).trans (slots_of_buffer (F := F) (Memref.whole cc0_scratch1) c f)
  have h2 : scrAny (F := F) cc0_scratch2 c ⊢ slots (F := F) (lbuf 1) c := scr_split _ _ c fun f =>
    (Entails.of_eq (by rw [View.set_whole])).trans (slots_of_buffer (F := F) (Memref.whole cc0_scratch2) c f)
  have h3 : scrAny (F := F) cc0_scratch3 c ⊢ slots (F := F) (lbuf 2) c := scr_split _ _ c fun f =>
    (Entails.of_eq (by rw [View.set_whole])).trans (slots_of_buffer (F := F) (Memref.whole cc0_scratch3) c f)
  have h4 : scrAny (F := F) cc0_scratch4 c ⊢ slots (F := F) (lbuf 3) c := scr_split _ _ c fun f =>
    (Entails.of_eq (by rw [View.set_whole])).trans (slots_of_buffer (F := F) (Memref.whole cc0_scratch4) c f)
  exact BIClass.sep_mono h0 (BIClass.sep_mono h1 (BIClass.sep_mono h2 (BIClass.sep_mono h3 h4)))

theorem scrs_join (c : Dev nD) : allSlots (F := F) c ⊢ scrs (F := F) c := by
  have h0 : slots (F := F) (sbuf 0) c ⊢ scrAny (F := F) cc0_scratch0 c :=
    (buffer_of_slots (F := F) (Memref.whole cc0_scratch0) c).trans (Entails.of_eq (by rw [View.set_whole]; rfl))
  have h1 : slots (F := F) (lbuf 0) c ⊢ scrAny (F := F) cc0_scratch1 c :=
    (buffer_of_slots (F := F) (Memref.whole cc0_scratch1) c).trans (Entails.of_eq (by rw [View.set_whole]; rfl))
  have h2 : slots (F := F) (lbuf 1) c ⊢ scrAny (F := F) cc0_scratch2 c :=
    (buffer_of_slots (F := F) (Memref.whole cc0_scratch2) c).trans (Entails.of_eq (by rw [View.set_whole]; rfl))
  have h3 : slots (F := F) (lbuf 2) c ⊢ scrAny (F := F) cc0_scratch3 c :=
    (buffer_of_slots (F := F) (Memref.whole cc0_scratch3) c).trans (Entails.of_eq (by rw [View.set_whole]; rfl))
  have h4 : slots (F := F) (lbuf 3) c ⊢ scrAny (F := F) cc0_scratch4 c :=
    (buffer_of_slots (F := F) (Memref.whole cc0_scratch4) c).trans (Entails.of_eq (by rw [View.set_whole]; rfl))
  exact BIClass.sep_mono h0 (BIClass.sep_mono h1 (BIClass.sep_mono h2 (BIClass.sep_mono h3 h4)))

end Cert.KernelIdeal.Proto

end
-- ==== Proof.KernelIdeal.Region.lean ====
/-
  The launch's proof data: what the two operand windows hold, what the body leaves, and the pipeline's obligation on the
  body, met by `run_body`.
-/
module

public import proofs.«01_k».proof.Proof.KernelIdeal.Slots
public import proofs.«01_k».proof.Proof.Gen.KernelIdeal.Frame

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- The first operand's window on each device. -/
def Xs : XT F := fun c => iblk m c 0 t0_0
/-- The second operand's window on each device. -/
def Ys : YT F := fun c => iblk m c 1 t0_0

/-- The rights to the four families of copies. -/
def allKits (c : Dev nD) : sProp 𝕄 := iprop(kits (F := F) c 0 ∗ kits (F := F) c 1 ∗ kits (F := F) c 2 ∗ kits (F := F) c 3)
/-- The receive cells of family a are open. -/
def ropen (c : Dev nD) (a : Fin 4) : sProp 𝕄 :=
  iprop(reached ER (recvCell c a 0) 0 ∗ reached ER (recvCell c a 1) 0 ∗ reached ER (recvCell c a 2) 0 ∗ reached ER (recvCell c a 3) 0)
/-- Every receive cell is open. -/
def ropens (c : Dev nD) : sProp 𝕄 := iprop(ropen (F := F) c 0 ∗ ropen (F := F) c 1 ∗ ropen (F := F) c 2 ∗ ropen (F := F) c 3)
/-- Every DMA cell is closed. -/
def allShut (c : Dev nD) : sProp 𝕄 := iprop(shuts (F := F) c 0 ∗ shuts (F := F) c 1 ∗ shuts (F := F) c 2 ∗ shuts (F := F) c 3)
/-- The barrier duties of device c and its wait on its own barrier cell. -/
def barKit (c : Dev nD) : sProp 𝕄 :=
  iprop((barTok (F := F) c 0 ∗ barTok (F := F) c 1 ∗ barTok (F := F) c 2) ∗ (cred (tallyAt (barCell c) () 3) ∗ atPos ER (barCell c) 0 ∅ 0))

/-- What the protocol brings into the body. -/
def Xk (c : Dev nD) : sProp 𝕄 :=
  iprop((∃ K, recs (Xs m) (Ys m) K) ∗ levAts L lv ∗ barKit (F := F) c ∗ allKits (F := F) c ∗ ropens (F := F) c)
/-- What it leaves beside the closed DMA cells. -/
def Yk (c : Dev nD) : sProp 𝕄 := semVal (barCell c) 0

/-- Slots of a landing buffer whose receive cells are open are ready to be lent. -/
theorem lend_of (c : Dev nD) (a : Fin 4) : iprop(slots (F := F) (lbuf a) c ∗ ropen (F := F) c a) ⊢ lend (F := F) a c := by
  unfold slots ropen lend ready
  iintro ⟨⟨S0, S1, S2, S3⟩, R0, R1, R2, R3⟩
  isplitl [S0 R0]; · isplitl [S0] <;> iassumption
  isplitl [S1 R1]; · isplitl [S1] <;> iassumption
  isplitl [S2 R2]; · isplitl [S2] <;> iassumption
  isplitl [S3] <;> iassumption

/-- The body's result does not depend on what the result window held. -/
theorem added_eq (X : XT F) (Y : YT F) (c : Dev nD) (f : OT F) : added X Y c (base X Y c f) = outC X Y c := by
  unfold outC; rw [base_indep X Y c f]

/-- The body from the scratch buffers whole to the scratch buffers whole, with the result named. -/
theorem run_whole (X : XT F) (Y : YT F) (K : GSem nD τ sig → ℕ) (c : Dev nD) (f : OT F) (Kt : PUnit → sProp 𝕄) :
    iprop((recs X Y K ∗ levAts L lv ∗ barKit (F := F) c ∗ allKits (F := F) c ∗ ropens (F := F) c ∗ scrs (F := F) c ∗ ow (F := F) c (due 0)
        ∗ winP cc0_stg0_0 c (X c) ∗ winP cc0_stg1_0 c (Y c) ∗ winP cc0_stg2_0 c f)
      ∗ ((ow (F := F) c (due 19) ∗ semVal (barCell c) 0 ∗ allShut (F := F) c ∗ scrs (F := F) c
        ∗ winP cc0_stg0_0 c (X c) ∗ winP cc0_stg1_0 c (Y c) ∗ winP cc0_stg2_0 c (outC X Y c)) -∗ Kt ⟨⟩))
      ⊢ wp frame (wpE (defs₀ (F := F)) 𝒱₀ c none) Set.univ
        (cc0_body xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  iintro ⟨⟨#HR, #Hl, HB, HK, HP, HS, HO, Hx, Hy, Hf⟩, Hk⟩
  ihave HS := (scrs_split (F := F) c) $$ HS
  unfold allSlots barKit allKits ropens
  icases HS with ⟨Ssrc, S0, S1, S2, S3⟩
  icases HB with ⟨Htok, Hbar⟩
  icases HP with ⟨P0, P1, P2, P3⟩
  ihave L0 := (lend_of (F := F) c 0) $$ [S0 P0]; · isplitl [S0] <;> iassumption
  ihave L1 := (lend_of (F := F) c 1) $$ [S1 P1]; · isplitl [S1] <;> iassumption
  ihave L2 := (lend_of (F := F) c 2) $$ [S2 P2]; · isplitl [S2] <;> iassumption
  ihave L3 := (lend_of (F := F) c 3) $$ [S3 P3]; · isplitl [S3] <;> iassumption
  iapply (run_body X Y K c f Kt)
  unfold bodyIn bodyOut
  isplitr [Hk]
  · isplitr; · iexact HR
    isplitr; · iexact Hl
    isplitl [HO]; · iexact HO
    isplitl [Htok]; · iexact Htok
    isplitl [Hbar]; · iexact Hbar
    isplitl [HK]; · iexact HK
    isplitl [L0 L1 L2 L3]
    · isplitl [L0]; · iexact L0
      isplitl [L1]; · iexact L1
      isplitl [L2] <;> iassumption
    isplitl [Ssrc]; · iexact Ssrc
    isplitl [Hx]; · iexact Hx
    isplitl [Hy] <;> iassumption
  iintro ⟨HO, Hb, Hsh, Hsl, Hx, Hy, Hf⟩
  iapply Hk
  isplitl [HO]; · iexact HO
  isplitl [Hb]; · iexact Hb
  isplitl [Hsh]; · unfold allShut; iexact Hsh
  isplitl [Hsl]; · iapply (scrs_join (F := F) c); unfold allSlots; iexact Hsl
  isplitl [Hx]; · iexact Hx
  isplitl [Hy]; · iexact Hy
  ihave Hf := (Entails.of_eq (congrArg (fun g => (winP cc0_stg2_0 c g : sProp 𝕄)) (added_eq X Y c f))) $$ Hf
  iexact Hf

/-- The invariant before and after the one point. -/
def Φ₀ (c : Dev nD) : sProp 𝕄 := iprop(Xk m c ∗ scrs (F := F) c ∗ ∃ r, prngReg c r)
def Φ₁ (c : Dev nD) : sProp 𝕄 := iprop(Yk (F := F) c ∗ allShut (F := F) c ∗ scrs (F := F) c ∗ ∃ r, prngReg c r)

/-- The launch's proof data. -/
def dat (c : Dev nD) : Dat τ (Elt F) Unit ℕ UU ℕ cfg0 c where
  A w := V m c (Pipeline.arrRef spec0 w)
  after w _ := match w with
    | ⟨0, _⟩ => Xs m c
    | ⟨1, _⟩ => Ys m c
    | ⟨2, _⟩ => outC (Xs m) (Ys m) c
  Φ t := if t.val = 0 then Φ₀ m c else Φ₁ (F := F) c
  q _ := fullShare
  owed t := if t.val = 0 then O₀ c else 0

theorem dat_first (c : Dev nD) : (dat m c).owed (t0_0 : Fin cfg0.N).castSucc = owing c (due 0) := rfl
theorem dat_last (c : Dev nD) : (dat m c).owed (t0_0 : Fin cfg0.N).succ = owing c (due 19) := rfl

theorem before0 (c : Dev nD) (d) : (dat m c).before (0 : Fin 3) t0_0 d = Xs m c := by
  unfold Dat.before; rw [if_pos (fetch0_0 t0_0)]; rfl
theorem before1 (c : Dev nD) (d) : (dat m c).before (1 : Fin 3) t0_0 d = Ys m c := by
  unfold Dat.before; rw [if_pos (fetch0_1 t0_0)]; rfl

/-- A whole buffer read at given contents. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄) = winP b c f := by
  have h : (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b) ↦{fullShare} g) := by
    unfold owns; simp only [Memref.view_whole, View.read_whole, View.set_whole]
  rw [h]
  have h1 : iprop(∃ g : Buf (Elt F) ((c : Thread nD τ).loc b), ⌜g = f⌝ ∗ ((c : Thread nD τ).loc b) ↦{fullShare} g) ⊢ (winP b c f : sProp 𝕄) := by
    unfold winP; iintro ⟨%g, %hg, H⟩; subst hg; iexact H
  have h2 : (winP b c f : sProp 𝕄) ⊢ iprop(∃ g : Buf (Elt F) ((c : Thread nD τ).loc b), ⌜g = f⌝ ∗ ((c : Thread nD τ).loc b) ↦{fullShare} g) := by
    unfold winP; iintro H; iexists f; isplitr; · ipureintro; rfl
    iexact H
  exact BI.equiv_iff.mp ⟨h1, h2⟩

theorem owesAt_out (c : Dev nD) (t : Fin (cfg0.N + 1)) (l : List Due) (h : (dat m c).owed t = owing c l) :
    ((dat m c).owesAt () t : sProp 𝕄) ⊢ ow (F := F) c l := by
  unfold Dat.owesAt Pipeline.owesWithin ow; rw [h]
  iintro ⟨%W, -, HO⟩; iexists W; iexact HO
theorem owesAt_in (c : Dev nD) (t : Fin (cfg0.N + 1)) (l : List Due) (h : (dat m c).owed t = owing c l) :
    ow (F := F) c l ⊢ ((dat m c).owesAt () t : sProp 𝕄) := by
  unfold Dat.owesAt Pipeline.owesWithin ow; rw [h]
  iintro ⟨%W, HO⟩; iexists W; isplitr; · ipureintro; exact fun _ _ => Or.inl trivial
  iexact HO

end Cert.KernelIdeal.Proto

end
-- ==== Proof.KernelIdeal.Obl.lean ====
/-
  The pipeline's obligation on the body.
-/
module

public import proofs.«01_k».proof.Proof.KernelIdeal.Region

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- The three windows one by one. -/
theorem windows (Φ : Fin cfg0.W → sProp 𝕄) : bigSep Finset.univ Φ = iprop(Φ (0 : Fin 3) ∗ Φ (1 : Fin 3) ∗ Φ (2 : Fin 3)) := bigSep_W0 Φ

set_option maxHeartbeats 1600000 in
/-- The pipeline's obligation on the body. -/
theorem body_ob (c : Dev nD) : BodyObligation (dat (F := F) m c) (defs₀ (F := F)) 𝒱₀ () Set.univ := fun t => by
  obtain rfl := fin_N0 t
  rw [windows, windows]
  show iprop(Φ₀ m c ∗ (dat m c).owesAt () (t0_0 : Fin cfg0.N).castSucc
      ∗ (∃ d, owns (c : Thread nD τ) (Memref.whole cc0_stg0_0) fullShare ((dat m c).before (0 : Fin 3) t0_0 d))
      ∗ (∃ d, owns (c : Thread nD τ) (Memref.whole cc0_stg1_0) fullShare ((dat m c).before (1 : Fin 3) t0_0 d))
      ∗ (∃ d, owns (c : Thread nD τ) (Memref.whole cc0_stg2_0) fullShare ((dat m c).before (2 : Fin 3) t0_0 d)))
    ⊢ wp frame (wpE (defs₀ (F := F)) 𝒱₀ c none) Set.univ
        (cc0_body xM (Memref.isWhole_whole _) yM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12)
      (fun _ => iprop(Φ₁ (F := F) c ∗ (dat m c).owesAt () (t0_0 : Fin cfg0.N).succ
        ∗ owns (c : Thread nD τ) (Memref.whole cc0_stg0_0) fullShare (Xs m c)
        ∗ owns (c : Thread nD τ) (Memref.whole cc0_stg1_0) fullShare (Ys m c)
        ∗ owns (c : Thread nD τ) (Memref.whole cc0_stg2_0) fullShare (outC (Xs m) (Ys m) c)))
  rw [owns_whole c cc0_stg0_0 (Xs m c), owns_whole c cc0_stg1_0 (Ys m c), owns_whole c cc0_stg2_0 (outC (Xs m) (Ys m) c)]
  unfold Φ₀ Φ₁ Xk Yk
  iintro ⟨⟨⟨⟨%K, HR⟩, Hlev, HB, HK, HP⟩, HS, Hreg⟩, HO, ⟨%d0, Hx⟩, ⟨%d1, Hy⟩, ⟨%d2, Hf⟩⟩
  ihave HO := (owesAt_out m c _ (due 0) (dat_first m c)) $$ HO
  ihave Hx := (Entails.of_eq ((congrArg (fun g => (owns (c : Thread nD τ) (Memref.whole cc0_stg0_0) fullShare g : sProp 𝕄)) (before0 m c d0)).trans (owns_whole c cc0_stg0_0 (Xs m c)))) $$ Hx
  ihave Hy := (Entails.of_eq ((congrArg (fun g => (owns (c : Thread nD τ) (Memref.whole cc0_stg1_0) fullShare g : sProp 𝕄)) (before1 m c d1)).trans (owns_whole c cc0_stg1_0 (Ys m c)))) $$ Hy
  ihave Hf := (Entails.of_eq (owns_whole c cc0_stg2_0 ((dat m c).before (2 : Fin 3) t0_0 d2))) $$ Hf
  iapply (run_whole (Xs m) (Ys m) K c ((dat m c).before (2 : Fin 3) t0_0 d2) _)
  isplitr [Hreg]
  · isplitl [HR]; · iexact HR
    isplitl [Hlev]; · iexact Hlev
    isplitl [HB]; · iexact HB
    isplitl [HK]; · iexact HK
    isplitl [HP]; · iexact HP
    isplitl [HS]; · iexact HS
    isplitl [HO]; · iexact HO
    isplitl [Hx]; · iexact Hx
    isplitl [Hy] <;> iassumption
  iintro ⟨HO, Hb, Hsh, HS, Hx, Hy, Hf⟩
  isplitr [HO Hx Hy Hf]
  · isplitl [Hb]; · iexact Hb
    isplitl [Hsh]; · iexact Hsh
    isplitl [HS]; · iexact HS
    iexact Hreg
  isplitl [HO]; · iapply (owesAt_in m c _ (due 19) (dat_last m c)); iexact HO
  isplitl [Hx]; · iexact Hx
  isplitl [Hy]; · iexact Hy
  iexact Hf

end Cert.KernelIdeal.Proto

end
-- ==== Proof.KernelIdeal.Deal.lean ====
/-
  What the launch deals each device: the rights to its cells, the duty tokens it pays with, its launch credit; and the
  opening of its DMA cells at the region's entry.
-/
module

public import proofs.«01_k».proof.Proof.KernelIdeal.Obl

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Direction, family and slot of a DMA cell. -/
abbrev Key : Type := Bool × Fin 4 × Fin 4
/-- The kernel's own semaphores. -/
def osem (k : Key) : SemLoc sig := .dma (dsem k)

theorem reg_ne_dma (s : Sem sig) (d : DmaSem sig) : (SemLoc.reg s : SemLoc sig) ≠ .dma d := by simp

/-! ## Families -/

/-- The DMA cells by direction. -/
theorem by_direction (Φ : Key → sProp 𝕄) : bigSep Finset.univ Φ
    = iprop(bigSep Finset.univ (fun p : Fin 4 × Fin 4 => Φ (false, p)) ∗ bigSep Finset.univ (fun p : Fin 4 × Fin 4 => Φ (true, p))) := by
  rw [bigSep_univ_prod]
  exact bigSep_univ_eq_bigSepL [false, true] (by decide) (by decide) (fun r : Bool => bigSep Finset.univ (fun p : Fin 4 × Fin 4 => Φ (r, p)))

/-- The DMA cells slot by slot, the two directions of a slot together. -/
theorem by_slot (Φ : Key → sProp 𝕄) : bigSep Finset.univ Φ
    = bigSep Finset.univ (fun p : Fin 4 × Fin 4 => iprop(Φ (false, p) ∗ Φ (true, p))) := by
  rw [by_direction, bigSep_sep']

/-- A device's DMA cells at zero. -/
theorem ownSems_eq (c : Dev nD) : (Pipeline.ownSems0 osem c : sProp 𝕄) = allShut (F := F) c := by
  have h : (Pipeline.ownSems0 osem c : sProp 𝕄) = bigSep Finset.univ (fun k : Key => shut (F := F) c k) := rfl
  rw [h, by_direction, bigSep_univ_prod, bigSep_univ_prod, ← bigSep_sep']
  rw [bigSep_congr (Ψ := fun a : Fin 4 => shuts (F := F) c a) fun a _ => by rw [sep_four, sep_four]; rfl]
  rw [sep_four]; rfl

theorem ownSems_slots (c : Dev nD) : (Pipeline.ownSems0 osem c : sProp 𝕄)
    = bigSep Finset.univ (fun p : Fin 4 × Fin 4 => iprop(shut (F := F) c (false, p) ∗ shut (F := F) c (true, p))) := by
  have h : (Pipeline.ownSems0 osem c : sProp 𝕄) = bigSep Finset.univ (fun k : Key => shut (F := F) c k) := rfl
  rw [h, by_slot]

/-! ## Opening the cells -/

/-- What the launch deals for slot (a, b): the rights to open its two cells, the two tokens its sender pays with, and the
    credit its receiver waits with. -/
def dealt (c : Dev nD) (p : Fin 4 × Fin 4) : sProp 𝕄 :=
  iprop((openTok ER (sendCell c p.1 p.2) ∗ openTok ER (recvCell c p.1 p.2))
    ∗ (dutyTok ER (sendCell c p.1 p.2) 0 0 ∗ dutyTok ER (recvCell (peer p.1 c) p.1 p.2) 0 0)
    ∗ cred (tallyAt (recvCell c p.1 p.2) () N))
/-- The same once the cells are open. -/
def readied (c : Dev nD) (p : Fin 4 × Fin 4) : sProp 𝕄 :=
  iprop(sendKit (F := F) c p.1 p.2 ∗ recvKit (F := F) c p.1 p.2 ∗ reached ER (recvCell c p.1 p.2) 0)

/-- The two cells of one slot opened from their counters at zero. -/
theorem open_one (X : XT F) (Y : YT F) (K : GSem nD τ sig → ℕ) (c : Dev nD) (p : Fin 4 × Fin 4) :
    iprop(recs X Y K ∗ (dealt (F := F) c p ∗ (shut (F := F) c (false, p) ∗ shut (F := F) c (true, p)))) ⊢ (|={Set.univ}=> readied (F := F) c p : sProp 𝕄) := by
  obtain ⟨a, b⟩ := p
  unfold dealt readied sendKit recvKit shut
  iintro ⟨#HR, ⟨⟨Hos, Hor⟩, ⟨Hts, Htr⟩, Hc⟩, Hzs, Hzr⟩
  ihave #Is := (recs_d X Y K c (false, a, b)) $$ HR
  ihave #Ir := (recs_d X Y K c (true, a, b)) $$ HR
  imod (Rounds.cell_open ER (Rd X Y) (g := sendCell c a b) (Set.mem_univ (K (sendCell c a b)))) $$ [Hos Hzs] with ⟨Has, #Hrs⟩
  · isplitr; · iexact Is
    isplitl [Hos] <;> iassumption
  imod (Rounds.cell_open ER (Rd X Y) (g := recvCell c a b) (Set.mem_univ (K (recvCell c a b)))) $$ [Hor Hzr] with ⟨Har, #Hrr⟩
  · isplitr; · iexact Ir
    isplitl [Hor] <;> iassumption
  imodintro
  isplitl [Hts Htr Has]
  · isplitl [Hts]; · iexact Hts
    isplitr; · iexact Hrs
    isplitl [Htr] <;> iassumption
  isplitl [Hc Har]; · isplitl [Hc] <;> iassumption
  iexact Hrr

/-- The slots of one family, opened, as the body takes them. -/
theorem readied_family (c : Dev nD) (a : Fin 4) :
    bigSep Finset.univ (fun b : Fin 4 => readied (F := F) c (a, b)) ⊢ iprop(kits (F := F) c a ∗ ropen (F := F) c a) := by
  rw [sep_four]
  unfold readied kits ropen
  iintro ⟨⟨s0, r0, o0⟩, ⟨s1, r1, o1⟩, ⟨s2, r2, o2⟩, s3, r3, o3⟩
  isplitl [s0 s1 s2 s3 r0 r1 r2 r3]
  · isplitl [s0 s1 s2 s3]
    · isplitl [s0]; · iexact s0
      isplitl [s1]; · iexact s1
      isplitl [s2] <;> iassumption
    isplitl [r0]; · iexact r0
    isplitl [r1]; · iexact r1
    isplitl [r2] <;> iassumption
  isplitl [o0]; · iexact o0
  isplitl [o1]; · iexact o1
  isplitl [o2] <;> iassumption

theorem readied_all (c : Dev nD) : bigSep Finset.univ (fun p : Fin 4 × Fin 4 => readied (F := F) c p) ⊢ iprop(allKits (F := F) c ∗ ropens (F := F) c) := by
  rw [bigSep_univ_prod]
  refine (bigSep_mono (Ψ := fun a : Fin 4 => iprop(kits (F := F) c a ∗ ropen (F := F) c a)) fun a _ => readied_family c a).trans ?_
  rw [bigSep_sep', sep_four, sep_four]
  exact BI.Entails.refl _

/-- All DMA cells of a device opened. -/
theorem open_all (X : XT F) (Y : YT F) (K : GSem nD τ sig → ℕ) (c : Dev nD) :
    iprop(recs X Y K ∗ bigSep Finset.univ (fun p : Fin 4 × Fin 4 => dealt (F := F) c p) ∗ Pipeline.ownSems0 osem c)
      ⊢ (|={Set.univ}=> iprop(allKits (F := F) c ∗ ropens (F := F) c) : sProp 𝕄) := by
  have h := bigSep_with_persistent (S := Finset.univ) (R := recs X Y K)
    (Φ := fun p : Fin 4 × Fin 4 => iprop(dealt (F := F) c p ∗ (shut (F := F) c (false, p) ∗ shut (F := F) c (true, p))))
    (Ψ := fun p : Fin 4 × Fin 4 => iprop(|={Set.univ}=> readied (F := F) c p)) fun p _ => open_one X Y K c p
  rw [ownSems_slots]
  iintro ⟨#HR, Hd, Hz⟩
  imod (h.trans (bigSep_fupd _ _)) $$ [Hd Hz] with H
  · isplitr; · iexact HR
    iapply (Entails.of_eq (bigSep_sep' _ _ _).symm)
    isplitl [Hd] <;> iassumption
  imodintro
  iapply (readied_all (F := F) c); iexact H

/-! ## Funding the cells -/

/-- The barrier cells, -/
def barEmb : Dev nD ↪ GSem nD τ sig := ⟨fun c => barCell c, fun _ _ h => congrArg (fun g : GSem nD τ sig => g.1.1) h⟩
/-- the DMA cells, -/
def dmaEmb : Dev nD × Key ↪ GSem nD τ sig :=
  ⟨fun p => dcell p.1 p.2, fun p q h => Prod.ext (congrArg (fun g : GSem nD τ sig => g.1.1) h)
    (dsem_inj (SemLoc.dma.inj (congrArg (fun g : GSem nD τ sig => g.2) h)))⟩
abbrev barCells : Finset (GSem nD τ sig) := Finset.univ.map barEmb
abbrev dmaCells : Finset (GSem nD τ sig) := Finset.univ.map dmaEmb

/-- and every duty of them. -/
def dutyEmb : Dev nD × (Fin 3 ⊕ Key) ↪ GSem nD τ sig × ℕ × Fin 3 :=
  ⟨fun p => match p.2 with | .inl d => (barCell p.1, 0, d) | .inr k => (dcell p.1 k, 0, 0), by
    rintro ⟨c, d | k⟩ ⟨c', d' | k'⟩ h
    · have h1 : c = c' := congrArg (fun t : GSem nD τ sig × ℕ × Fin 3 => t.1.1.1) h
      have h2 : d = d' := congrArg (fun t : GSem nD τ sig × ℕ × Fin 3 => t.2.2) h
      rw [h1, h2]
    · exact absurd (congrArg (fun t : GSem nD τ sig × ℕ × Fin 3 => t.1.2) h) (reg_ne_dma _ _)
    · exact absurd (congrArg (fun t : GSem nD τ sig × ℕ × Fin 3 => t.1.2) h).symm (reg_ne_dma _ _)
    · have h1 : c = c' := congrArg (fun t : GSem nD τ sig × ℕ × Fin 3 => t.1.1.1) h
      have h2 : k = k' := dsem_inj (SemLoc.dma.inj (congrArg (fun t : GSem nD τ sig × ℕ × Fin 3 => t.1.2) h))
      rw [h1, h2]⟩
def duties : Finset (GSem nD τ sig × ℕ × Fin 3) := Finset.univ.map dutyEmb

theorem cells_disjoint : Disjoint barCells dmaCells := by
  rw [Finset.disjoint_left]
  rintro g h₁ h₂
  obtain ⟨c, -, rfl⟩ := Finset.mem_map.mp h₁
  obtain ⟨p, -, h⟩ := Finset.mem_map.mp h₂
  exact absurd (congrArg (fun g : GSem nD τ sig => g.2) h).symm (reg_ne_dma _ _)

/-- The invariants of all cells, device by device. -/
theorem recs_of (X : XT F) (Y : YT F) (K : GSem nD τ sig → ℕ) :
    bigSep (barCells ∪ dmaCells) (fun g => cellInv ER (Rd X Y) (K g) g) = recs X Y K := by
  rw [bigSep_union cells_disjoint, bigSep_map, bigSep_map]
  rfl

/-- The rights to open a device's cells, slot by slot. -/
theorem opens_of : bigSep dmaCells (fun g => (openTok ER g : sProp 𝕄))
    = bigSep Finset.univ (fun c : Dev nD => bigSep Finset.univ (fun p : Fin 4 × Fin 4 => iprop(openTok ER (sendCell c p.1 p.2) ∗ openTok ER (recvCell c p.1 p.2)))) := by
  rw [bigSep_map, bigSep_univ_prod]
  exact bigSep_congr fun c _ => by_slot (F := F) (fun k => (openTok ER (dcell c k) : sProp 𝕄))

/-- A family over devices, each device's part moved to where `e` sends it. -/
theorem around {β : Type} [Fintype β] (e : β → Dev nD ≃ Dev nD) (Φ : Dev nD → β → sProp 𝕄) :
    bigSep Finset.univ (fun c : Dev nD => bigSep Finset.univ (fun b : β => Φ c b))
      = bigSep Finset.univ (fun c : Dev nD => bigSep Finset.univ (fun b : β => Φ (e b c) b)) := by
  rw [bigSep_univ_comm, bigSep_univ_comm (fun c b => Φ (e b c) b)]
  exact bigSep_congr fun b _ => bigSep_univ_equiv (e b) (fun c => Φ c b)

/-- The exchange of family a. -/
def swap (a : Fin 4) : Dev nD ≃ Dev nD := ⟨peer a, peer a, peer_peer a, peer_peer a⟩

/-- The duty tokens device c pays with. -/
def pays (c : Dev nD) : sProp 𝕄 :=
  iprop(bigSep Finset.univ (fun d : Fin 3 => dutyTok ER (barCell (peer d.castSucc c)) 0 d)
    ∗ bigSep Finset.univ (fun p : Fin 4 × Fin 4 => iprop(dutyTok ER (sendCell c p.1 p.2) 0 0 ∗ dutyTok ER (recvCell (peer p.1 c) p.1 p.2) 0 0)))

/-- All duty tokens, each with the device that pays it. -/
theorem duties_of : bigSep duties (fun x => (dutyTok ER x.1 x.2.1 x.2.2 : sProp 𝕄)) = bigSep Finset.univ (fun c : Dev nD => pays (F := F) c) := by
  unfold duties pays
  rw [bigSep_map, bigSep_univ_prod]
  have h1 : bigSep Finset.univ (fun c : Dev nD => bigSep Finset.univ (fun s : Fin 3 ⊕ Key => (dutyTok ER (dutyEmb (c, s)).1 (dutyEmb (c, s)).2.1 (dutyEmb (c, s)).2.2 : sProp 𝕄)))
      = bigSep Finset.univ (fun c : Dev nD => iprop(bigSep Finset.univ (fun d : Fin 3 => (dutyTok ER (barCell c) 0 d : sProp 𝕄))
        ∗ (bigSep Finset.univ (fun p : Fin 4 × Fin 4 => (dutyTok ER (sendCell c p.1 p.2) 0 0 : sProp 𝕄))
          ∗ bigSep Finset.univ (fun p : Fin 4 × Fin 4 => (dutyTok ER (recvCell c p.1 p.2) 0 0 : sProp 𝕄))))) :=
    bigSep_congr fun c _ => by
      rw [bigSep_univ_sum, ← by_direction (F := F) (fun k => (dutyTok ER (dcell c k) 0 0 : sProp 𝕄))]
      rfl
  rw [h1, bigSep_sep', bigSep_sep',
    around (F := F) (fun d : Fin 3 => swap d.castSucc) (fun c d => (dutyTok ER (barCell c) 0 d : sProp 𝕄)),
    around (F := F) (fun p : Fin 4 × Fin 4 => swap p.1) (fun c p => (dutyTok ER (recvCell c p.1 p.2) 0 0 : sProp 𝕄)),
    ← bigSep_sep', ← bigSep_sep']
  exact bigSep_congr fun c _ => by rw [bigSep_sep']; rfl

/-! ## The launch credit -/

/-- What a list of payments owes at a cell. -/
theorem owing_at (c : Dev nD) (g : GSem nD τ sig) : ∀ l : List Due, owing c l g () = (l.map fun e => if dueCell c e = g then dueAmt e else 0).sum
  | [] => rfl
  | e :: l => by
    have h : owing c (e :: l) g () = owing c l g () + tallyAt (dueCell c e) () (dueAmt e) g () := rfl
    rw [h, owing_at c g l, tallyAt_apply, List.map_cons, List.sum_cons, Nat.add_comm]
    congr 1
    by_cases hg : dueCell c e = g
    · rw [if_pos hg, if_pos ⟨hg.symm, rfl⟩]
    · rw [if_neg hg, if_neg fun ⟨h', _⟩ => hg h'.symm]

theorem allDue_nodup : allDue.Nodup := by decide
theorem allDue_all : allDue.toFinset = Finset.univ := by decide

theorem owed_at (c : Dev nD) (g : GSem nD τ sig) : O₀ c g () = ∑ e : Due, if dueCell c e = g then dueAmt e else 0 := by
  rw [owing_at, ← allDue_all, List.sum_toFinset _ allDue_nodup]

theorem due_bar (c d : Dev nD) (i : Fin 3) : dueCell d (.inl i) = barCell c ↔ d = peer i.castSucc c := by
  constructor
  · intro h
    have h1 : peer i.castSucc d = c := congrArg (fun g : GSem nD τ sig => g.1.1) h
    rw [← h1, peer_peer]
  · rintro rfl
    show barCell (peer i.castSucc (peer i.castSucc c)) = _
    rw [peer_peer]
theorem due_recv (c d : Dev nD) (p q : Fin 4 × Fin 4) : dueCell d (.inr p) = recvCell c q.1 q.2 ↔ d = peer q.1 c ∧ p = q := by
  obtain ⟨a, b⟩ := p; obtain ⟨a', b'⟩ := q
  constructor
  · intro h
    have h1 : peer a d = c := congrArg (fun g : GSem nD τ sig => g.1.1) h
    have h2 : ((true, a, b) : Key) = (true, a', b') := dsem_inj (SemLoc.dma.inj (congrArg (fun g : GSem nD τ sig => g.2) h))
    obtain ⟨rfl, rfl⟩ : a = a' ∧ b = b' := by simpa using h2
    exact ⟨by rw [← h1, peer_peer], rfl⟩
  · rintro ⟨rfl, h⟩
    obtain ⟨rfl, rfl⟩ : a = a' ∧ b = b' := by simpa using h
    show recvCell (peer a (peer a c)) a b = _
    rw [peer_peer]

theorem all_bar (c : Dev nD) : ∑ d : Dev nD, O₀ d (barCell c) () = 3 := by
  simp only [owed_at]
  rw [Finset.sum_comm, Fintype.sum_sum_type]
  have h1 (i : Fin 3) : ∑ d : Dev nD, (if dueCell d (.inl i) = barCell c then dueAmt (.inl i) else 0) = 1 := by
    simp only [due_bar, Finset.sum_ite_eq', Finset.mem_univ, if_true]; rfl
  have h2 (p : Fin 4 × Fin 4) : ∑ d : Dev nD, (if dueCell d (.inr p) = barCell c then dueAmt (.inr p) else 0) = 0 :=
    Finset.sum_eq_zero fun d _ => if_neg fun h => absurd (congrArg (fun g : GSem nD τ sig => g.2) h).symm (reg_ne_dma _ _)
  simp only [h1, h2]; rfl
theorem all_recv (c : Dev nD) (q : Fin 4 × Fin 4) : ∑ d : Dev nD, O₀ d (recvCell c q.1 q.2) () = N := by
  simp only [owed_at]
  rw [Finset.sum_comm, Fintype.sum_sum_type]
  have h1 (i : Fin 3) : ∑ d : Dev nD, (if dueCell d (.inl i) = recvCell c q.1 q.2 then dueAmt (.inl i) else 0) = 0 :=
    Finset.sum_eq_zero fun d _ => if_neg fun h => absurd (congrArg (fun g : GSem nD τ sig => g.2) h) (reg_ne_dma _ _)
  have h2 (p : Fin 4 × Fin 4) : ∑ d : Dev nD, (if dueCell d (.inr p) = recvCell c q.1 q.2 then dueAmt (.inr p) else 0) = if p = q then N else 0 := by
    simp only [due_recv]
    by_cases h : p = q
    · simp only [h, and_true, Finset.sum_ite_eq', Finset.mem_univ, if_true]; rfl
    · simp only [h, and_false, if_false, Finset.sum_const_zero]
  simp only [h1, h2, Finset.sum_const_zero, Finset.sum_ite_eq', Finset.mem_univ, if_true, Nat.zero_add]

theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The receive semaphores among all. -/
def recvEmb : Fin 4 × Fin 4 ↪ SemLoc sig := ⟨fun p => .dma (dsem (true, p)), fun p q h => congrArg Prod.snd (dsem_inj (SemLoc.dma.inj h))⟩

/-- The credits a device waits with. -/
theorem creds (c : Dev nD) : (Pipeline.launchCred O₀ c : sProp 𝕄)
    ⊢ iprop(cred (tallyAt (barCell c) () 3) ∗ bigSep Finset.univ (fun p : Fin 4 × Fin 4 => cred (tallyAt (recvCell c p.1 p.2) () N))) := by
  unfold Pipeline.launchCred
  rw [bigSep_univ_at _ (SemLoc.reg barS), credit_at (barCell c) 3 (all_bar c)]
  refine BIClass.sep_mono (BI.Entails.refl _) ((bigSep_subset (t := Finset.univ.map recvEmb) fun s hs => ?_).trans ?_)
  · obtain ⟨p, -, rfl⟩ := Finset.mem_map.mp hs
    exact Finset.mem_erase.mpr ⟨fun h => reg_ne_dma _ _ h.symm, Finset.mem_univ _⟩
  · rw [bigSep_map]
    exact bigSep_mono fun p _ => Entails.of_eq (congrArg (fun t => (cred t : sProp 𝕄)) (credit_at (recvCell c p.1 p.2) N (all_recv c p)))

end Cert.KernelIdeal.Proto

end
-- ==== Proof.KernelIdeal.Main.lean ====
/-
  The program's run: the reshape, then the region, from any memory with zero counters; every device ends with its
  arguments unchanged, the result named, and every counter at zero.
-/
module

public import proofs.«01_k».proof.Proof.KernelIdeal.Deal
public import Idealize.ShloMosaic.Lib.Pipeline.ValueKit

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The unscoped buffers. -/
abbrev bufs : Finset (DevRef τ sig) := Pipeline.ucRefs τ sig
/-- Those no window stages. -/
abbrev others : Finset (DevRef τ sig) := bufs \ Pipeline.arrRefs (τ := τ) spec0

/-- A device's buffers at launch, at the region's entry, and after it. -/
abbrev W₀ (c : Dev nD) : Valuation τ sig (Elt F) := fun b => m ((c : Dev nD), b)
abbrev W₁ (c : Dev nD) : Valuation τ sig (Elt F) := StableHlo.after hostOps0 (W₀ m c)
def W₂ (c : Dev nD) : Valuation τ sig (Elt F) := Function.update (W₁ m c) (Proc.devRef .tc main_v2) (outC (Xs m) (Ys m) c)

theorem W₂_result (c : Dev nD) : W₂ m c main_v2 = outC (Xs m) (Ys m) c := Function.update_self ..
theorem W₂_ne (c : Dev nD) (b : DevRef τ sig) (h : b ≠ Proc.devRef .tc main_v2) : W₂ m c b = W₁ m c b := Function.update_of_ne h ..

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- Every barrier cell is open from the launch. -/
def bopens : sProp 𝕄 := bigSep Finset.univ (fun c : Dev nD => reached ER (barCell c) 0)
instance bopens_persistent : BI.Persistent (bopens (F := F)) := by unfold bopens; infer_instance
theorem bopen_at (c : Dev nD) : bopens (F := F) ⊢ reached ER (barCell c) 0 :=
  bigSep_elim (Finset.mem_univ c) (Φ := fun c : Dev nD => (reached ER (barCell c) 0 : sProp 𝕄))

/-- What the launch leaves with device c for the region. -/
def Tk (c : Dev nD) : sProp 𝕄 :=
  iprop((∃ K, recs (Xs m) (Ys m) K) ∗ bopens (F := F)
    ∗ (atPos ER (barCell c) 0 ∅ 0 ∗ cred (tallyAt (barCell c) () 3))
    ∗ bigSep Finset.univ (fun d : Fin 3 => dutyTok ER (barCell (peer d.castSucc c)) 0 d)
    ∗ bigSep Finset.univ (fun p : Fin 4 × Fin 4 => dealt (F := F) c p))

theorem enter (c : Dev nD) : iprop(Tk m c ∗ Pipeline.ownSems0 osem c ∗ levAts L lv) ⊢ (|={Set.univ}=> Xk m c : sProp 𝕄) := by
  unfold Tk Xk barKit barTok
  rw [Ring.bigSep_fin3]
  iintro ⟨⟨⟨%K, #HR⟩, #Hb, ⟨Hat, Hcr⟩, ⟨T0, T1, T2⟩, Hd⟩, Hz, #Hlev⟩
  imod (open_all (Xs m) (Ys m) K c) $$ [Hd Hz] with ⟨HK, HP⟩
  · isplitr; · iexact HR
    isplitl [Hd] <;> iassumption
  imodintro
  isplitr; · iexists K; iexact HR
  isplitr; · iexact Hlev
  isplitl [T0 T1 T2 Hat Hcr]
  · isplitl [T0 T1 T2]
    · isplitl [T0]
      · isplitl [T0]; · iexact T0
        iapply (bopen_at (F := F) _); iexact Hb
      isplitl [T1]
      · isplitl [T1]; · iexact T1
        iapply (bopen_at (F := F) _); iexact Hb
      isplitl [T2]; · iexact T2
      iapply (bopen_at (F := F) _); iexact Hb
    isplitl [Hcr]; · iexact Hcr
    iexact Hat
  isplitl [HK] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_first (c : Dev nD) : (pdats (F := F) m 0 c).owed 0 = (0 : CellTallies nD τ sig Unit) + O₀ c := (zero_add _).symm
theorem owed_last (c : Dev nD) : (pdats (F := F) m 0 c).owed (Fin.last _) = 0 := rfl

/-- The staging cells are waited on below everything the device owes. -/
theorem owed_above (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨x, -, rfl⟩ := owing_pos c allDue g i h
    refine ⟨?_, by rw [lv_due]; unfold dueLv; split <;> omega⟩
    match x with
    | .inl _ => exact (L_tc _ _) ▸ Finset.mem_singleton_self _
    | .inr _ => exact (L_tc _ _) ▸ Finset.mem_singleton_self _
  · exact absurd h (Nat.lt_irrefl 0)

theorem staging_low : ∀ (w : Fin 3) (s : Fin (win0 w).nbuf), semLv (.dma ((win0 w).sem s)) = 0 := by decide

theorem held_none (c : Dev nD) (W : Valuation τ sig (Elt F)) : (StableHlo.held (c : Thread nD τ) ∅ W : sProp 𝕄) = BI.emp := by
  unfold StableHlo.held; exact BI.bigSep_empty

theorem enter_body (c : Dev nD) :
    iprop(Pipeline.scopedRest (Pipeline.pin (pcfgs (F := F)) adm 0).spec c ∗ (∃ r, prngReg c r) ∗ StableHlo.held (c.tc : Thread nD τ) ∅ (W₁ m c) ∗ Xk m c)
      ⊢ (pdats m 0 c).Φ 0 := by
  show iprop(Pipeline.scopedRest spec0 c ∗ (∃ r, prngReg c r) ∗ StableHlo.held (c.tc : Thread nD τ) ∅ (W₁ m c) ∗ Xk m c) ⊢ Φ₀ m c
  rw [scopedRest0_eq]
  show iprop(scrs (F := F) c ∗ (∃ r, prngReg c r) ∗ StableHlo.held (c.tc : Thread nD τ) ∅ (W₁ m c) ∗ Xk m c) ⊢ Φ₀ m c
  unfold Φ₀
  iintro ⟨Hs, Hp, -, Hx⟩
  isplitl [Hx]; · iexact Hx
  isplitl [Hs] <;> iassumption

theorem leave_body (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c)
      ∗ Pipeline.ownSems0 osem c ∗ Yk (F := F) c) := by
  show Φ₁ (F := F) c ⊢ iprop(Pipeline.scopedRest spec0 c ∗ (∃ r, prngReg c r) ∗ StableHlo.held (c.tc : Thread nD τ) ∅ (W₂ m c) ∗ Pipeline.ownSems0 osem c ∗ Yk (F := F) c)
  rw [scopedRest0_eq, ownSems_eq, held_none]
  show Φ₁ (F := F) c ⊢ iprop(scrs (F := F) c ∗ (∃ r, prngReg c r) ∗ emp ∗ allShut (F := F) c ∗ Yk (F := F) c)
  unfold Φ₁
  iintro ⟨Hy, Hz, Hs, Hp⟩
  isplitl [Hs]; · iexact Hs
  isplitl [Hp]; · iexact Hp
  isplitr; · iempintro
  isplitl [Hz] <;> iassumption

/-- The arrays at the region's entry, -/
theorem arrays_in (c : Dev nD) (w : Fin 3) : (pdats (F := F) m 0 c).arrAt w 0 = W₁ m c (Proc.devRef .tc (Pipeline.arrRef spec0 w)) := rfl
/-- and at its exit: the result window's array holds what the body left. -/
theorem arrays_out (c : Dev nD) : ∀ w : Fin 3, (pdats (F := F) m 0 c).arrAt w (Pipeline.pin (pcfgs (F := F)) adm 0).N = W₂ m c (Proc.devRef .tc (Pipeline.arrRef spec0 w))
  | 0 => ((dat m c).arrAt_in (0 : Fin 3) rfl _).trans (W₂_ne m c (Proc.devRef .tc main_v1) (by decide)).symm
  | 1 => ((dat m c).arrAt_in (1 : Fin 3) rfl _).trans (W₂_ne m c (Proc.devRef .tc main_arg1) (by decide)).symm
  | 2 => by
    refine Eq.trans ?_ (W₂_result m c).symm
    exact (dat m c).arrAt_eq_of_after_last (2 : Fin 3) t0_0 (by decide +kernel) (outC (Xs m) (Ys m) c) fun j => rfl

theorem others_kept (c : Dev nD) (b : DevRef τ sig) (hb : b ∈ others \ ∅) : W₂ m c b = W₁ m c b :=
  W₂_ne m c b fun h => by
    subst h
    exact absurd hb (by decide)

set_option backward.isDefEq.respectTransparency.types false in
/-- The region. -/
def reg : ℝ𝕊 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_ob m c).loose)
    (fun _ => 0) O₀ (owed_first m) (owed_last m) (fun _ => rfl) (fun c w => by unfold Dat.share; split <;> rfl)
    (W₁ m) (W₂ m) (others_kept m)
    (Tk m) (Yk (F := F)) (Xk m) (Yk (F := F)) (enter m) (enter_body m) (leave_body m)
    (fun c => by iintro H; imodintro; iexact H)
    (fun _ => 0)
    ⟨fun c w s => by rw [L_tc]; exact Finset.mem_singleton_self _,
      fun c w s => Nat.le_of_eq (staging_low w s), fun c t g i h => owed_above m c t g i h⟩
    (fun _ => iprop(emp))
    (arrays_in m) (arrays_out m)

end Cert.KernelIdeal.Proto

end
-- ==== Proof.KernelIdeal.Ends.lean ====
/-
  The whole program from launch to end: what the launch deals each device, the reshape and the region one after the other,
  and what every device's buffers and counters hold at the end.
-/
module

public import proofs.«01_k».proof.Proof.KernelIdeal.Main

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg)

/-! ## The two segments -/

/-- Beside its buffers, what a device carries up to the region. -/
def R (c : Dev nD) : sProp 𝕄 := iprop(Tk m c ∗ (∃ r, prngReg c r) ∗ ∃ W, owes (c : Thread nD τ) (O₀ c) W)
def start (c : Dev nD) : sProp 𝕄 := iprop(StableHlo.held (c : Thread nD τ) bufs (W₀ m c) ∗ R m c)
/-- What it keeps past the region. -/
def finish (c : Dev nD) : sProp 𝕄 := iprop(StableHlo.held (c : Thread nD τ) bufs (W₂ m c) ∗ semVal (barCell c) 0)

theorem host_bufs : ∀ op ∈ (hostOps0 : List (HloOp τ sig (Elt F))), op.bufs ⊆ bufs := fun op h =>
  Pipeline.sub_ucRefs op (List.forall_iff_forall_mem.mp hostOps0_sub op h)

def host : ℍ := Pipeline.HostSeg.ofOps _ _ _ _ _ bufs hostOps0 host_bufs (List.forall_iff_forall_mem.mp hostOps0_fresh) (W₀ m) (R m)

theorem arr_sub : Pipeline.arrRefs (τ := τ) spec0 ⊆ bufs := by decide

theorem bufs_split (c : Dev nD) (W : Valuation τ sig (Elt F)) : (StableHlo.held (c.tc : Thread nD τ) bufs W : sProp 𝕄)
    = iprop(StableHlo.held (c.tc : Thread nD τ) (Pipeline.arrRefs (τ := τ) spec0) W ∗ StableHlo.held (c.tc : Thread nD τ) others W) :=
  StableHlo.held_sub_split c.tc arr_sub W

theorem reg_pre (c : Dev nD) : iprop(StableHlo.held (c : Thread nD τ) bufs (W₁ m c) ∗ R m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) others (W₁ m c) ∗ emp) ∗ Tk m c ∗ ∃ Wd, owes (c : Thread nD τ) (0 + O₀ c) Wd)
  rw [bufs_split, zero_add]
  unfold R
  iintro ⟨⟨Ha, Hs⟩, Ht, Hp, HO⟩
  isplitl [Ha]; · iexact Ha
  isplitl [Hp]; · iexact Hp
  isplitl [Hs]
  · isplitl [Hs]; · iexact Hs
    iempintro
  isplitl [Ht] <;> iassumption

theorem reg_post (c : Dev nD) : (reg m).post c ⊢ iprop(finish m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) others (W₂ m c) ∗ emp) ∗ Yk (F := F) c ∗ ∃ Wd, owes (c : Thread nD τ) (0 : CellTallies nD τ sig Unit) Wd) ⊢ _
  unfold finish Yk
  rw [bufs_split]
  iintro ⟨Ha, -, ⟨Hs, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (host m), .region (reg m)]

/-! ## The launch -/

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells dmaCells duties)

/-- The protocol's element waits on device 0 for the deal. -/
def parked (c : Dev nD) : sProp 𝕄 := if c = 0 then BI.own (ER (launchOf barCells dmaCells duties)) else BI.emp
theorem parked_all : bigSep Finset.univ (parked (F := F)) = BI.own (ER (launchOf barCells dmaCells duties)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)], BI.bigSep_emp_const]
  exact (congrArg (fun X : sProp 𝕄 => iprop(X ∗ BI.emp)) (if_pos rfl)).trans (BI.equiv_iff.mp sep_emp)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_only : ∀ sm : SemLoc sig, sm.isScoped .tc = false → sm = .reg barS := by decide

/-- A device's own part of the deal. -/
def mine (c : Dev nD) : sProp 𝕄 :=
  iprop(StableHlo.held (c : Thread nD τ) bufs (W₀ m c)
    ∗ (cred (tallyAt (barCell c) () 3) ∗ bigSep Finset.univ (fun p : Fin 4 × Fin 4 => cred (tallyAt (recvCell c p.1 p.2) () N)))
    ∗ owes (c : Thread nD τ) (O₀ c) ∅ ∗ ∃ r, prngReg c r)
/-- Its part of the protocol's element. -/
def share (c : Dev nD) : sProp 𝕄 :=
  iprop(atPos ER (barCell c) 0 ∅ 0
    ∗ bigSep Finset.univ (fun p : Fin 4 × Fin 4 => iprop(openTok ER (sendCell c p.1 p.2) ∗ openTok ER (recvCell c p.1 p.2))) ∗ pays (F := F) c)

theorem start_intro (K : GSem nD τ sig → ℕ) (c : Dev nD) :
    iprop((recs (Xs m) (Ys m) K ∗ bopens (F := F)) ∗ (share (F := F) c ∗ mine m c)) ⊢ start m c := by
  have pack : (iprop(bigSep Finset.univ (fun p : Fin 4 × Fin 4 => iprop(openTok ER (sendCell c p.1 p.2) ∗ openTok ER (recvCell c p.1 p.2)))
      ∗ bigSep Finset.univ (fun p : Fin 4 × Fin 4 => iprop(dutyTok ER (sendCell c p.1 p.2) 0 0 ∗ dutyTok ER (recvCell (peer p.1 c) p.1 p.2) 0 0))
      ∗ bigSep Finset.univ (fun p : Fin 4 × Fin 4 => cred (tallyAt (recvCell c p.1 p.2) () N))) : sProp 𝕄)
      ⊢ bigSep Finset.univ (fun p : Fin 4 × Fin 4 => dealt (F := F) c p) := by
    refine Entails.of_eq ?_
    unfold dealt
    rw [← bigSep_sep', ← bigSep_sep']
  unfold start R Tk share mine pays
  iintro ⟨⟨#HR, #Hb⟩, ⟨Hat, Ho, HtB, Ht⟩, Hh, ⟨Hc, Hcs⟩, HO, Hp⟩
  isplitl [Hh]; · iexact Hh
  isplitl [Hat Ho HtB Ht Hc Hcs]
  · isplitr; · iexists K; iexact HR
    isplitr; · iexact Hb
    isplitl [Hat Hc]; · isplitl [Hat] <;> iassumption
    isplitl [HtB]; · iexact HtB
    iapply pack
    isplitl [Ho]; · iexact Ho
    isplitl [Ht] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (start m) : sProp 𝕄) := by
  have core (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(mine m c ∗ semVal (barCell c) 0 ∗ parked c) : sProp 𝕄) := by
    rw [show unscopedBufs c (fun b => m ((c : Thread nD τ).loc b)) = StableHlo.held (c : Thread nD τ) bufs (W₀ m c)
      from Pipeline.unscopedBufs_held (Ix := Unit) (Name := ℕ) (U := UU) (Lvl := ℕ) c (W₀ m c), unscopedSems_eq]
    unfold mine
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have cores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c) : sProp 𝕄)
      ⊢ iprop(bigSep Finset.univ (mine m) ∗ bigSep barCells (fun g => semVal g 0) ∗ BI.own (ER (launchOf barCells dmaCells duties))) := by
    rw [show bigSep barCells (fun g => (semVal g 0 : sProp 𝕄))
      = bigSep Finset.univ (fun c : Dev nD => (semVal (barCell c) 0 : sProp 𝕄)) from bigSep_map (s := Finset.univ) barEmb (Φ := fun g : GSem nD τ sig => (semVal g 0 : sProp 𝕄)),
      ← parked_all, ← bigSep_sep', ← bigSep_sep']
    exact bigSep_mono fun c _ => core c
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bopens (F := F) :=
    Entails.of_eq (bigSep_map (s := Finset.univ) barEmb (Φ := fun g : GSem nD τ sig => (reached ER g 0 : sProp 𝕄)))
  have shares : (iprop(bigSep Finset.univ (fun c : Dev nD => (atPos ER (barCell c) 0 ∅ 0 : sProp 𝕄))
      ∗ bigSep Finset.univ (fun c : Dev nD => bigSep Finset.univ (fun p : Fin 4 × Fin 4 => iprop(openTok ER (sendCell c p.1 p.2) ∗ openTok ER (recvCell c p.1 p.2))))
      ∗ bigSep Finset.univ (fun c : Dev nD => pays (F := F) c)) : sProp 𝕄) ⊢ bigSep Finset.univ (share (F := F)) := by
    refine Entails.of_eq ?_
    unfold share
    rw [bigSep_sep', bigSep_sep']
  have both : (iprop(bigSep Finset.univ (share (F := F)) ∗ bigSep Finset.univ (mine m)) : sProp 𝕄) ⊢ bigSep Finset.univ (fun c => iprop(share (F := F) c ∗ mine m c)) :=
    Entails.of_eq (bigSep_sep' _ _ _).symm
  iintro ⟨H, -⟩
  ihave H1 := cores $$ H
  icases H1 with ⟨HB, Hv, Hu⟩
  imod (Rounds.fund_launch ER (Rd (Xs m) (Ys m)) cells_disjoint (fun g _ h => h) duties) $$ [Hv Hu] with ⟨%K, -, #Hinv, #Hr, Hat, Hopen, Htok⟩
  · isplitl [Hv] <;> iassumption
  imodintro
  iapply (bigSep_with_persistent (R := iprop(recs (Xs m) (Ys m) K ∗ bopens (F := F))) (Φ := fun c => iprop(share (F := F) c ∗ mine m c)) fun c _ => start_intro m K c)
  isplitr
  · isplitr
    · iapply (Entails.of_eq (recs_of (Xs m) (Ys m) K)); iexact Hinv
    iapply hre; iexact Hr
  iapply both
  isplitr [HB]
  · iapply shares
    isplitl [Hat]; · iapply hat; iexact Hat
    isplitl [Hopen]; · iapply (Entails.of_eq (opens_of (F := F))); iexact Hopen
    iapply (Entails.of_eq (duties_of (F := F))); iexact Htok
  iexact HB

/-! ## The run -/

theorem W₂_arg0 (c : Dev nD) : W₂ m c main_arg0 = m ((c : Thread nD τ).loc main_arg0) :=
  (W₂_ne m c (Proc.devRef .tc main_arg0) (by decide)).trans (V_main_arg0 m c)
theorem W₂_arg1 (c : Dev nD) : W₂ m c main_arg1 = m ((c : Thread nD τ).loc main_arg1) :=
  (W₂_ne m c (Proc.devRef .tc main_arg1) (by decide)).trans (V_main_arg1 m c)

theorem read_off (c : Dev nD) : (finish m c : sProp 𝕄) ⊢ iprop(((c : Thread nD τ).loc main_arg0 ↦{fullShare} W₂ m c main_arg0)
    ∗ ((c : Thread nD τ).loc main_arg1 ↦{fullShare} W₂ m c main_arg1) ∗ ((c : Thread nD τ).loc main_v2 ↦{fullShare} W₂ m c main_v2) ∗ semVal (barCell c) 0) := by
  have h : (StableHlo.held (c : Thread nD τ) bufs (W₂ m c) : sProp 𝕄)
      = iprop(((c : Thread nD τ).loc main_arg0 ↦{fullShare} W₂ m c main_arg0) ∗ ((c : Thread nD τ).loc main_v1 ↦{fullShare} W₂ m c main_v1)
        ∗ ((c : Thread nD τ).loc main_arg1 ↦{fullShare} W₂ m c main_arg1) ∗ ((c : Thread nD τ).loc main_v2 ↦{fullShare} W₂ m c main_v2)) := by
    unfold StableHlo.held
    rw [bigSep_eq_bigSepL_of_eq [Proc.devRef .tc main_arg0, Proc.devRef .tc main_v1, Proc.devRef .tc main_arg1, Proc.devRef .tc main_v2] (by decide) (by decide)]
    rfl
  unfold finish
  rw [h]
  iintro ⟨⟨H0, -, H1, H2⟩, Hb⟩
  isplitl [H0]; · iexact H0
  isplitl [H1]; · iexact H1
  isplitl [H2] <;> iassumption

/-- From any memory, with all counters zero, every device ends with its arguments unchanged, its result the folded sum of
    the two products, and every counter zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = outC (Xs m) (Ys m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; rfl)
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := start m) (Tₙ := finish m)
    (hch := ⟨fun c => .rfl, fun c => reg_pre m c, fun c => reg_post m c⟩)
    (hinit := init m ρ)
    (QY := fun c s => ((s.mem ((c : Thread nD τ).loc main_arg0) = W₂ m c main_arg0 ∧ s.mem ((c : Thread nD τ).loc main_arg1) = W₂ m c main_arg1)
      ∧ s.mem ((c : Thread nD τ).loc main_v2) = W₂ m c main_v2) ∧ s.sem (barCell c) = 0)
    (hfin := fun c s' => by
      iintro ⟨H, HSI⟩
      ihave H' := (read_off m c) $$ H
      icases H' with ⟨Hx, Hy, Hz, Hb0⟩
      icombine HSI Hx gives %hx
      icombine HSI Hy gives %hy
      icombine HSI Hz gives %hz
      icombine HSI Hb0 gives %hb
      imodintro
      isplitr
      · ipureintro
        exact ⟨⟨⟨Buf.eq_of_forall_mem_univ hx, Buf.eq_of_forall_mem_univ hy⟩, Buf.eq_of_forall_mem_univ hz⟩, by simpa using hb⟩
      iexact HSI)
    (hQ := fun s h hs => ⟨fun c => by
        obtain ⟨⟨⟨hx, hy⟩, hz⟩, -⟩ := h c
        exact ⟨⟨hx.trans (W₂_arg0 m c), hy.trans (W₂_arg1 m c)⟩, hz.trans (W₂_result m c)⟩,
      sem_eq_zero hs fun c sm hsm => by
        obtain rfl := unscoped_only sm hsm
        exact (h c).2⟩)

end Cert.KernelIdeal.Proto

end
-- ==== Proof.KernelIdeal.Value.lean ====
/-
  The values, over exact arithmetic: what each device's block holds at an index, as sums over the contracted coordinate.
-/
module

public import proofs.«01_k».proof.Proof.KernelIdeal.Out
public import Idealize.ShloMosaic.Lib.Pointwise

@[expose] public section

noncomputable section

namespace Cert.KernelIdeal.Proto

open Idealize.ShloMosaic Idealize.ShloMosaic.TcCoe
open Cert.KernelIdeal.Gen
open scoped BigOperators

variable (X : XT Ideal) (Y : YT Ideal)

/-- The printed product of 64 rows, at an index. -/
theorem small_apply (u : Vec Ideal S1x64x512 .f32) (v : Vec Ideal S512x1024 .f32) (j : S1x64x1024.Idx) :
    k0_pay1 u v j = ∑ k : Fin 512, u (ix3 0 (j 1) k) * v (ix2 k (j 2)) := by
  pointwise [k0_pay1, dot_S64x512_S512x1024_S64x1024_1_0_0_1_n_n]

theorem large_apply (u : Vec Ideal S1x256x512 .f32) (v : Vec Ideal S512x1024 .f32) (j : S1x256x1024.Idx) :
    k0_pay7 u v j = ∑ k : Fin 512, u (ix3 0 (j 1) k) * v (ix2 k (j 2)) := by
  pointwise [k0_pay7, dot_S256x512_S512x1024_S256x1024_1_0_0_1_n_n]

theorem addV_apply (u : Vec Ideal S1x64x1024 .f32) (v : Vec Ideal S1x64x1024 .bf16) (j : S1x64x1024.Idx) : addV u v j = u j + v j := by
  pointwise [addV, k0_pay10]

/-! ## Reading the operands -/

/-- A box of one batch, read at an index: the operand at the box's origin plus the index. -/
theorem read_rows {F : FTy → Type} {R : ℕ} (f : (cc0_stg0_0 : Ref sig .tc).ty.Contents (Elt F)) (off : Fin 3 → ℕ)
    (inb : ∀ a, off a + (⟨3, ![1, R, 512]⟩ : Shape).size a ≤ S4x512x512.size a) (b : Fin 4) (o : ℕ) (h : off = ![b.val, o, 0])
    (i : Fin R) (k : Fin 512) (r : Fin 512) (hr : r.val = o + i.val) :
    (xM.access (Rect.unit (s := S4x512x512) off (⟨3, ![1, R, 512]⟩ : Shape).size inb)).read (Elt F) f (ix3 0 i k) = f (ix3 b r k) := by
  subst h
  refine congrArg f ?_
  funext a
  refine Fin.ext ?_
  fin_cases a
  · show b.val + 1 * 0 = b.val; omega
  · show o + 1 * i.val = r.val; omega
  · show 0 + 1 * k.val = k.val; omega

theorem read_all {F : FTy → Type} (Y : YT F) (c : Dev nD) (k : Fin 512) (n : Fin 1024) : yV Y c (ix2 k n) = Y c (ix2 k n) := by
  refine congrArg (Y c) ?_
  funext a
  refine Fin.ext ?_
  fin_cases a
  · show 0 + 1 * k.val = k.val; omega
  · show 0 + 1 * n.val = n.val; omega

/-! ## The products -/

/-- A device's x coordinate, and the quarter of the rows it sends for. -/
abbrev xOf (c : Dev nD) : ℕ := c.val / 8
abbrev qOf (c : Dev nD) : ℕ := 2 * ((c.val / 4) % 2) + (c.val % 4) % 2

/-- A row of a batch against a column. -/
def dotAt (x : Vec Ideal S4x512x512 .f32) (y : Vec Ideal S512x1024 .f32) (b : Fin 4) (r : Fin 512) (n : Fin 1024) : EReal :=
  ∑ k : Fin 512, x (ix3 b r k) * y (ix2 k n)
/-- A row of device c's first operand against a column of its second. -/
def dotRow (c : Dev nD) (b : Fin 4) (r : Fin 512) (n : Fin 1024) : EReal := dotAt (X c) (Y c) b r n

theorem small_dot (c : Dev nD) (off : Fin 3 → ℕ) (inb : ∀ a, off a + S1x64x512.size a ≤ S4x512x512.size a) (b : Fin 4) (o : ℕ)
    (h : off = ![b.val, o, 0]) (j : S1x64x1024.Idx) (r : Fin 512) (hr : r.val = o + (j 1).val) :
    k0_pay1 ((xM.access (Rect.unit (s := S4x512x512) off S1x64x512.size inb)).read (Elt Ideal) (X c)) (yV Y c) j = dotRow X Y c b r (j 2) := by
  rw [small_apply]
  exact Finset.sum_congr rfl fun k _ => congrArg₂ (fun p q : EReal => p * q) (read_rows (R := 64) (X c) off inb b o h (j 1) k r hr) (read_all Y c k (j 2))

theorem large_dot (c : Dev nD) (off : Fin 3 → ℕ) (inb : ∀ a, off a + S1x256x512.size a ≤ S4x512x512.size a) (b : Fin 4) (o : ℕ)
    (h : off = ![b.val, o, 0]) (j : S1x256x1024.Idx) (r : Fin 512) (hr : r.val = o + (j 1).val) :
    k0_pay7 ((xM.access (Rect.unit (s := S4x512x512) off S1x256x512.size inb)).read (Elt Ideal) (X c)) (yV Y c) j = dotRow X Y c b r (j 2) := by
  rw [large_apply]
  exact Finset.sum_congr rfl fun k _ => congrArg₂ (fun p q : EReal => p * q) (read_rows (R := 256) (X c) off inb b o h (j 1) k r hr) (read_all Y c k (j 2))

/-- What device c sends for batch b. -/
theorem sent_apply (c : Dev nD) (b : Fin 4) (j : S1x64x1024.Idx) (r : Fin 512) (hr : r.val = (64 * qOf c + 256) - 256 * xOf c + (j 1).val) :
    sent X Y c b j = dotRow X Y c b r (j 2) := by
  have e : (128 * ((c.val / 4) % 2) + 64 * ((c.val % 4) % 2) + 256) - 256 * (c.val / 8) = (64 * qOf c + 256) - 256 * xOf c := by
    unfold qOf xOf; omega
  match b with
  | 0 => exact small_dot X Y c _ (k0_off1_inb c) 0 _ ((k0_off1_eq c).trans (by rw [e]; rfl)) j r hr
  | 1 => exact small_dot X Y c _ (k0_off2_inb c) 1 _ ((k0_off2_eq c).trans (by rw [e]; rfl)) j r hr
  | 2 => exact small_dot X Y c _ (k0_off3_inb c) 2 _ ((k0_off3_eq c).trans (by rw [e]; rfl)) j r hr
  | 3 => exact small_dot X Y c _ (k0_off4_inb c) 3 _ ((k0_off4_eq c).trans (by rw [e]; rfl)) j r hr

/-- A device's own product for batch b. -/
theorem own_apply (c : Dev nD) (b : Fin 4) (j : S1x256x1024.Idx) (r : Fin 512) (hr : r.val = 256 * xOf c + (j 1).val) :
    own X Y c b j = dotRow X Y c b r (j 2) := by
  match b with
  | 0 => exact large_dot X Y c _ (k0_off5_inb c) 0 _ (k0_off5_eq c) j r hr
  | 1 => exact large_dot X Y c _ (k0_off6_inb c) 1 _ (k0_off6_eq c) j r hr
  | 2 => exact large_dot X Y c _ (k0_off7_inb c) 2 _ (k0_off7_eq c) j r hr
  | 3 => exact large_dot X Y c _ (k0_off8_inb c) 3 _ (k0_off8_eq c) j r hr

/-! ## What lands -/

/-- The device whose x peer computed what lands in family a. -/
def src (a : Fin 4) (c : Dev nD) : Dev nD := match a with | 0 => c | 1 => pz c | 2 => ny c | 3 => pz (ny c)

theorem inV_eq {F : FTy → Type} [FloatOps F] (X : XT F) (Y : YT F) (a : Fin 4) (c : Dev nD) (b : Fin 4) : inV X Y a c b = sent X Y (px (src a c)) b := by
  match a with
  | 0 => rfl
  | 1 => rfl
  | 2 => rfl
  | 3 => rfl

/-- Flipping x keeps the quarter, and the source has the same x. -/
theorem px_src : ∀ (a : Fin 4) (c : Dev nD), qOf (px (src a c)) = qOf (src a c) ∧ xOf (px (src a c)) = 1 - xOf c ∧ xOf c < 2 ∧ qOf (src a c) < 4 := by decide
/-- The four families bring the four quarters. -/
theorem quarter_at : ∀ (c : Dev nD) (q : Fin 4), ∃ a : Fin 4, ∀ a' : Fin 4, qOf (src a' c) = q.val ↔ a' = a := by decide

theorem qO_eq (c : Dev nD) (a b : Fin 4) : qO c a b = ![b.val, 64 * qOf (src a c), 0] := by
  revert c a b; decide +kernel

/-- What device c gets from family a for batch b, at a row of its own quarter. -/
theorem inV_apply (c : Dev nD) (a b : Fin 4) (j : S1x64x1024.Idx) (r : Fin 512) (hr : r.val = 256 * xOf c + 64 * qOf (src a c) + (j 1).val) :
    inV X Y a c b j = dotRow X Y (px (src a c)) b r (j 2) := by
  obtain ⟨h1, h2, h3, h4⟩ := px_src a c
  rw [inV_eq]
  refine sent_apply X Y _ b j r ?_
  rw [h1, h2, hr]
  omega

/-! ## The block -/

/-- The row of the whole result a device's row is. -/
def rowOf (c : Dev nD) (i : S4x256x1024.Idx) : Fin 512 := ⟨256 * xOf c + (i 1).val, by
  have h1 : (i 1).val < 256 := (i 1).isLt
  have h2 : c.val < 16 := c.isLt
  unfold xOf; omega⟩
/-- The device's own term at an index of the block, and the one its x peer computes. -/
def ownAt (c : Dev nD) (i : S4x256x1024.Idx) : EReal := dotRow X Y c (i 0) (rowOf c i) (i 2)
def otherAt (c : Dev nD) (i : S4x256x1024.Idx) : EReal := dotRow X Y (px c) (i 0) (rowOf c i) (i 2)

/-- The stores of the own products leave the own terms. -/
theorem base_apply (c : Dev nD) (f : OT Ideal) (i : S4x256x1024.Idx) : base X Y c f i = ownAt X Y c i := by
  have hi0 : (i 0).val < 4 := (i 0).isLt
  have hi1 : (i 1).val < 256 := (i 1).isLt
  have hi2 : (i 2).val < 1024 := (i 2).isLt
  have step (g : OT Ideal) (b : Fin 4) : putOwn X Y c g b i = if (i 0).val = b.val then ownAt X Y c i else g i := by
    unfold putOwn
    rw [put_apply g _ rfl]
    have key : (∀ a : Fin 3, (![b.val, 0, 0] : Fin 3 → ℕ) a ≤ (i a).val ∧ (i a).val < (![b.val, 0, 0] : Fin 3 → ℕ) a + S1x256x1024.size a) ↔ (i 0).val = b.val := by
      constructor
      · intro h
        have h0 : b.val ≤ (i 0).val ∧ (i 0).val < b.val + 1 := h 0
        omega
      · intro hb a
        fin_cases a
        · exact ⟨hb.ge, by show (i 0).val < b.val + 1; omega⟩
        · exact ⟨Nat.zero_le _, by show (i 1).val < 0 + 256; omega⟩
        · exact ⟨Nat.zero_le _, by show (i 2).val < 0 + 1024; omega⟩
    by_cases hb : (i 0).val = b.val
    · rw [dif_pos (key.mpr hb), if_pos hb]
      obtain rfl : i 0 = b := Fin.ext hb
      exact own_apply X Y c (i 0) _ (rowOf c i) rfl
    · rw [dif_neg (fun h => hb (key.mp h)), if_neg hb]
  unfold base
  rw [step, step, step, step]
  have : (i 0).val = 0 ∨ (i 0).val = 1 ∨ (i 0).val = 2 ∨ (i 0).val = 3 := by omega
  rcases this with h | h | h | h <;> rw [h] <;> rfl

/-- Both operands depend on a device's x coordinate only. -/
def Replicated : Prop := ∀ c c' : Dev nD, xOf c = xOf c' → X c = X c' ∧ Y c = Y c'

theorem xOf_src : ∀ (a : Fin 4) (c : Dev nD), xOf (px (src a c)) = xOf (px c) := by decide

/-- One addition, at an index: the x peer's term, where the index lies in the quarter the family brings. -/
theorem acc_apply (hrep : Replicated X Y) (c : Dev nD) (f : OT Ideal) (a b : Fin 4) (i : S4x256x1024.Idx) :
    acc X Y c f a b i = if (i 0).val = b.val ∧ (i 1).val / 64 = qOf (src a c) then (show EReal from f i) + otherAt X Y c i else f i := by
  have hi0 : (i 0).val < 4 := (i 0).isLt
  have hi1 : (i 1).val < 256 := (i 1).isLt
  have hi2 : (i 2).val < 1024 := (i 2).isLt
  unfold acc
  rw [put_apply f _ (qO_eq c a b)]
  have key : (∀ x : Fin 3, (![b.val, 64 * qOf (src a c), 0] : Fin 3 → ℕ) x ≤ (i x).val ∧ (i x).val < (![b.val, 64 * qOf (src a c), 0] : Fin 3 → ℕ) x + S1x64x1024.size x)
      ↔ (i 0).val = b.val ∧ (i 1).val / 64 = qOf (src a c) := by
    constructor
    · intro h
      have h0 : b.val ≤ (i 0).val ∧ (i 0).val < b.val + 1 := h 0
      have h1 : 64 * qOf (src a c) ≤ (i 1).val ∧ (i 1).val < 64 * qOf (src a c) + 64 := h 1
      constructor <;> omega
    · rintro ⟨hb, hq⟩ x
      fin_cases x
      · exact ⟨hb.ge, by show (i 0).val < b.val + 1; omega⟩
      · exact ⟨by show 64 * qOf (src a c) ≤ (i 1).val; omega, by show (i 1).val < 64 * qOf (src a c) + 64; omega⟩
      · exact ⟨Nat.zero_le _, by show (i 2).val < 0 + 1024; omega⟩
  by_cases hb : (i 0).val = b.val ∧ (i 1).val / 64 = qOf (src a c)
  · rw [dif_pos (key.mpr hb), if_pos hb, addV_apply]
    refine congrArg₂ (fun p q : EReal => p + q) (congrArg f ?_) ?_
    · funext x
      refine Fin.ext ?_
      have e := congrFun (qO_eq c a b) x
      have h := (key.mpr hb x).1
      show qO c a b x + 1 * ((i x).val - (![b.val, 64 * qOf (src a c), 0] : Fin 3 → ℕ) x) = (i x).val
      rw [e]; omega
    · obtain ⟨h0, h1⟩ := hb
      obtain rfl : i 0 = b := Fin.ext h0
      obtain ⟨ex, ey⟩ := hrep _ _ (xOf_src a c)
      refine (inV_apply X Y c a (i 0) _ (rowOf c i) ?_).trans ?_
      · show 256 * xOf c + (i 1).val = 256 * xOf c + 64 * qOf (src a c) + ((i 1).val - 64 * qOf (src a c))
        omega
      · unfold otherAt dotRow
        rw [ex, ey]; rfl
  · rw [dif_neg (fun h => hb (key.mp h)), if_neg hb]

/-- The sixteen additions leave at every index its contents plus the x peer's term, once. -/
theorem added_apply (hrep : Replicated X Y) (c : Dev nD) (f : OT Ideal) (i : S4x256x1024.Idx) :
    added X Y c f i = (show EReal from f i) + otherAt X Y c i := by
  have hi1 : (i 1).val < 256 := (i 1).isLt
  obtain ⟨a₀, ha⟩ := quarter_at c ⟨(i 1).val / 64, by omega⟩
  obtain ⟨b₀, hb⟩ : ∃ b₀ : Fin 4, (i 0).val = b₀.val := ⟨i 0, rfl⟩
  have step (f : OT Ideal) (a b : Fin 4) : acc X Y c f a b i = if b₀ = b ∧ a = a₀ then (show EReal from f i) + otherAt X Y c i else f i := by
    rw [acc_apply X Y hrep]
    refine if_congr ?_ rfl rfl
    rw [hb, eq_comm (a := (i 1).val / 64), ha a, Fin.val_inj]
  unfold added
  clear hb ha
  have four : ∀ x : Fin 4, x = 0 ∨ x = 1 ∨ x = 2 ∨ x = 3 := by decide
  rcases four a₀ with rfl | rfl | rfl | rfl <;> rcases four b₀ with rfl | rfl | rfl | rfl <;>
    simp only [step, Fin.isValue, Fin.reduceEq, and_true, and_false, true_and, false_and, and_self, if_true, if_false, reduceIte]

/-- The block at an index: the own term plus the x peer's. -/
theorem out_apply (hrep : Replicated X Y) (c : Dev nD) (i : S4x256x1024.Idx) : outC X Y c i = ownAt X Y c i + otherAt X Y c i := by
  unfold outC
  rw [added_apply X Y hrep, base_apply]

end Cert.KernelIdeal.Proto

end
-- ==== Proof.Algebra.lean ====
/-
  The two programs compared over exact arithmetic: a device's block is the reference's product, whose sum over the contracted
  coordinate falls into the half the device holds and the half its x peer holds.
-/
module

public import proofs.«01_k».proof.Proof.KernelIdeal.Ends
public import proofs.«01_k».proof.Proof.KernelIdeal.Value
public import proofs.«01_k».proof.Proof.Gen.ReferenceIdeal.Run
public import Idealize.ShloMosaic.Lib.Pointwise
public import Idealize.ShloMosaic.Lib.LayoutAt

@[expose] public section

noncomputable section

namespace Cert.Algebra

open Idealize.ShloMosaic Idealize.ShloMosaic.TcCoe Idealize.SL.Sem
open Cert.KernelIdeal.Gen Cert.KernelIdeal.Proto
open scoped BigOperators

/-! ## The operands a device starts from -/

section Operands
open Cert.KernelIdeal
variable (m : (ℓ : Loc nD τ sig) → Buf (Elt Ideal) ℓ)

/-- The kernel's first operand is the device's first argument with its two inner axes joined. -/
theorem first_operand (c : Dev nD) (b : Fin 4) (r k : Fin 512) : Xs m c (ix3 b r k)
    = (show EReal from m ((c : Thread nD τ).loc main_arg0) (ix4 b r (⟨k.val / 64, by have := k.isLt; omega⟩ : Fin 8) (⟨k.val % 64, by omega⟩ : Fin 64))) := by
  have e : V m c main_v1 = shapeCast _ (m ((c : Thread nD τ).loc main_arg0)) shapeCasts_S4x512x8x64_S4x512x512 := by
    unfold V
    after_results <;> rfl
  have e2 : Xs m c (ix3 b r k) = V m c main_v1 (ix3 b r k) := by
    refine congrArg (V m c main_v1) ?_
    funext a
    refine Fin.ext ?_
    fin_cases a
    · show 0 + 1 * b.val = b.val; omega
    · show 0 + 1 * r.val = r.val; omega
    · show 0 + 1 * k.val = k.val; omega
  rw [e2, e]
  pointwise

/-- Its second operand is the second argument. -/
theorem second_operand (c : Dev nD) (k : Fin 512) (n : Fin 1024) : Ys m c (ix2 k n) = m ((c : Thread nD τ).loc main_arg1) (ix2 k n) := by
  have e2 : Ys m c (ix2 k n) = V m c main_arg1 (ix2 k n) := by
    refine congrArg (V m c main_arg1) ?_
    funext a
    refine Fin.ext ?_
    fin_cases a
    · show 0 + 1 * k.val = k.val; omega
    · show 0 + 1 * n.val = n.val; omega
  rw [e2, V_main_arg1]
end Operands

/-! ## The reference at an index -/

section Reference
open Cert.ReferenceIdeal

/-- One summand of the reference's product: the joined first argument against the second. -/
def term (o : Vec Ideal S4x512x16x64 .f32) (w : Vec Ideal S1024x1024 .f32) (b : Fin 4) (r : Fin 512) (n : Fin 1024) (k : Fin 1024) : EReal :=
  o (ix4 b r (⟨k.val / 64, by have := k.isLt; omega⟩ : Fin 16) (⟨k.val % 64, by omega⟩ : Fin 64)) * w (ix2 k n)

/-- The sum of the summands of one half of the contracted coordinate. -/
def half (o : Vec Ideal S4x512x16x64 .f32) (w : Vec Ideal S1024x1024 .f32) (b : Fin 4) (r : Fin 512) (n : Fin 1024) (x : Fin 2) : EReal :=
  ∑ k : Fin 512, term o w b r n ⟨512 * x.val + k.val, by have := k.isLt; have := x.isLt; omega⟩

/-- The reference's result at an index is the sum of the two halves. -/
theorem ref_apply (o : Vec Ideal S4x512x16x64 .f32) (w : Vec Ideal S1024x1024 .f32) (j : S4x512x1024.Idx) :
    Host.dotGeneral (F := Ideal) (φ₁ := .f32) (φ₂ := .f32) dot_S4x512x1024_S1024x1024_S4x512x1024_2_0_01_1_n_n none (shapeCast _ o Cert.ReferenceIdeal.Gen.shapeCasts_S4x512x16x64_S4x512x1024) w j
      = half o w (j 0) (j 1) (j 2) 0 + half o w (j 0) (j 1) (j 2) 1 := by
  have e : Host.dotGeneral (F := Ideal) (φ₁ := .f32) (φ₂ := .f32) dot_S4x512x1024_S1024x1024_S4x512x1024_2_0_01_1_n_n none (shapeCast _ o Cert.ReferenceIdeal.Gen.shapeCasts_S4x512x16x64_S4x512x1024) w j
      = ∑ k : Fin 1024, term o w (j 0) (j 1) (j 2) k := by
    pointwise [dot_S4x512x1024_S1024x1024_S4x512x1024_2_0_01_1_n_n, term]
  rw [e, Fin.sum_univ_two_halves 512 512 rfl]
  unfold half
  refine congrArg₂ (fun p q : EReal => p + q) ?_ ?_
  · exact Finset.sum_congr rfl fun k _ => congrArg _ (Fin.ext (by show k.val = 512 * 0 + k.val; omega))
  · exact Finset.sum_congr rfl fun k _ => congrArg _ (Fin.ext (by show 512 + k.val = 512 * 1 + k.val; omega))
end Reference

/-! ## The two programs together -/

section Together
open Cert.KernelIdeal
variable (m : (ℓ : Loc nD τ sig) → Buf (Elt Ideal) ℓ)
variable (o : Vec Ideal Cert.ReferenceIdeal.S4x512x16x64 .f32) (w : Vec Ideal Cert.ReferenceIdeal.S1024x1024 .f32)

/-- Every device's arguments are its blocks of the whole arrays. -/
def Blocks : Prop := ∀ c : Dev nD,
  m ((c.tc : Thread nD τ).loc main_arg0) = Layout.blockN ⟨4, ![4, 512, 8, 64]⟩ ⟨4, ![4, 512, 16, 64]⟩ (Layout.meshBlock [2, 2, 4] ![[], [], [0], []] c) o
  ∧ m ((c.tc : Thread nD τ).loc main_arg1) = Layout.blockN ⟨2, ![512, 1024]⟩ ⟨2, ![1024, 1024]⟩ (Layout.meshBlock [2, 2, 4] ![[0], []] c) w

theorem xOf_lt (c : Dev nD) : c.val / 8 < 2 := by
  have h : c.val < 16 := c.isLt
  omega
/-- The x coordinate as a number below two. -/
def xFin (c : Dev nD) : Fin 2 := ⟨c.val / 8, xOf_lt c⟩

/-- The block's number along the first axis of the mesh. -/
theorem mesh_x : ∀ c : Dev nD, Layout.meshLin [2, 2, 4] c.val [0] = c.val / 8 := by decide

variable {m o w}

theorem first_block (h : Blocks m o w) (c : Dev nD) (b : Fin 4) (r k : Fin 512) : Xs m c (ix3 b r k)
    = o (ix4 b r (⟨(512 * (c.val / 8) + k.val) / 64, by have := k.isLt; have := xOf_lt c; omega⟩ : Fin 16) (⟨(512 * (c.val / 8) + k.val) % 64, by omega⟩ : Fin 64)) := by
  rw [first_operand, (h c).1]
  refine congrArg o (funext fun a => Fin.ext ?_)
  have e := mesh_x c
  fin_cases a
  · show 0 * 4 + b.val = b.val; omega
  · show 0 * 512 + r.val = r.val; omega
  · show Layout.meshLin [2, 2, 4] c.val [0] * 8 + k.val / 64 = (512 * (c.val / 8) + k.val) / 64
    rw [e]; omega
  · show 0 * 64 + k.val % 64 = (512 * (c.val / 8) + k.val) % 64; omega

theorem second_block (h : Blocks m o w) (c : Dev nD) (k : Fin 512) (n : Fin 1024) : Ys m c (ix2 k n)
    = w (ix2 (⟨512 * (c.val / 8) + k.val, by have := k.isLt; have := xOf_lt c; omega⟩ : Fin 1024) n) := by
  rw [second_operand, (h c).2]
  refine congrArg w (funext fun a => Fin.ext ?_)
  have e := mesh_x c
  fin_cases a
  · show Layout.meshLin [2, 2, 4] c.val [0] * 512 + k.val = 512 * (c.val / 8) + k.val
    rw [e]; omega
  · show 0 * 1024 + n.val = n.val; omega

/-- A device's own sums are the half of the reference's at its x coordinate. -/
theorem row_half (h : Blocks m o w) (c : Dev nD) (b : Fin 4) (r : Fin 512) (n : Fin 1024) :
    dotRow (Xs m) (Ys m) c b r n = half o w b r n (xFin c) := by
  unfold dotRow dotAt half term
  exact Finset.sum_congr rfl fun k _ => congrArg₂ (fun p q : EReal => p * q) (first_block h c b r k) (second_block h c k n)

theorem xFin_px : ∀ c : Dev nD, xFin (px c) = 1 - xFin c := by decide

theorem replicated (h : Blocks m o w) : Replicated (Xs m) (Ys m) := by
  intro c c' e
  constructor
  · funext i
    have hi : i = ix3 (i 0) (i 1) (i 2) := by funext a; fin_cases a <;> rfl
    have same (b : Fin 4) (r k : Fin 512) : Xs m c (ix3 b r k) = Xs m c' (ix3 b r k) := by
      unfold xOf at e
      rw [first_block h, first_block h]
      simp only [e]
    exact (congrArg (Xs m c) hi).trans ((same _ _ _).trans (congrArg (Xs m c') hi.symm))
  · funext i
    have hi : i = ix2 (i 0) (i 1) := by funext a; fin_cases a <;> rfl
    have same (k : Fin 512) (n : Fin 1024) : Ys m c (ix2 k n) = Ys m c' (ix2 k n) := by
      unfold xOf at e
      rw [second_block h, second_block h]
      simp only [e]
    exact (congrArg (Ys m c) hi).trans ((same _ _).trans (congrArg (Ys m c') hi.symm))

/-- At an index, the two halves, in either order. -/
theorem out_half (h : Blocks m o w) (c : Dev nD) (i : S4x256x1024.Idx) : outC (Xs m) (Ys m) c i
    = half o w (i 0) (rowOf c i) (i 2) 0 + half o w (i 0) (rowOf c i) (i 2) 1 := by
  have key : ∀ x : Fin 2, half o w (i 0) (rowOf c i) (i 2) x + half o w (i 0) (rowOf c i) (i 2) (1 - x)
      = half o w (i 0) (rowOf c i) (i 2) 0 + half o w (i 0) (rowOf c i) (i 2) 1 := by
    intro x
    fin_cases x
    · rfl
    · exact add_comm _ _
  refine (out_apply _ _ (replicated h) c i).trans (Eq.trans ?_ (key (xFin c)))
  rw [← xFin_px]
  exact congrArg₂ (fun p q : EReal => p + q) (row_half h c _ _ _) (row_half h (px c) _ _ _)

/-- The block a device ends with is its block of the reference's result. -/
theorem block_eq (h : Blocks m o w) (c : Dev nD) : outC (Xs m) (Ys m) c
    = Layout.blockN ⟨3, ![4, 256, 1024]⟩ ⟨3, ![4, 512, 1024]⟩ (Layout.meshBlock [2, 2, 4] ![[], [0], []] c)
      (Host.dotGeneral (F := Ideal) (φ₁ := .f32) (φ₂ := .f32) Cert.ReferenceIdeal.dot_S4x512x1024_S1024x1024_S4x512x1024_2_0_01_1_n_n none (shapeCast _ o Cert.ReferenceIdeal.Gen.shapeCasts_S4x512x16x64_S4x512x1024) w) := by
  funext i
  have place (hT) (j : Cert.ReferenceIdeal.S4x512x1024.Idx)
      (hj : j = Layout.TilesN.idx (S := ⟨3, ![4, 256, 1024]⟩) (T := ⟨3, ![4, 512, 1024]⟩) hT (Layout.meshBlock [2, 2, 4] ![[], [0], []] c) i) :
      j 0 = i 0 ∧ j 1 = rowOf c i ∧ j 2 = i 2 := by
    subst hj
    have e := mesh_x c
    refine ⟨Fin.ext ?_, Fin.ext ?_, Fin.ext ?_⟩
    · show 0 * 4 + (i 0).val = (i 0).val; omega
    · show Layout.meshLin [2, 2, 4] c.val [0] * 256 + (i 1).val = 256 * (c.val / 8) + (i 1).val
      rw [e]; omega
    · show 0 * 1024 + (i 2).val = (i 2).val; omega
  refine (out_half h c i).trans ?_
  refine Eq.trans ?_ (ref_apply o w _).symm
  obtain ⟨e0, e1, e2⟩ := place _ _ rfl
  rw [e0, e1, e2]
end Together

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.Algebra
public import Idealize.ShloMosaic.Adequacy
public import Idealize.ShloMosaic.Init

@[expose] public section

noncomputable section

namespace Cert.Proof

open Idealize.ShloMosaic Idealize.SL.Sem

/-- The kernel runs, keeps its arguments and leaves every counter at zero. -/
theorem frame_kernel : Cert.quiescent_Kernel (hKernel := Cert.Kernel.Gen.facts) := fun m g _ =>
  (θ_run _ _ _).mono (fun _ h => ⟨fun c => (h.1 c).1, h.2⟩) (Cert.Kernel.Proto.run_main m g)

/-- So does its idealization. -/
theorem frame_ideal : Cert.quiescent_KernelIdeal (hKernelIdeal := Cert.KernelIdeal.Gen.facts) := fun m g _ =>
  (θ_run _ _ _).mono (fun _ h => ⟨fun c => (h.1 c).1, h.2⟩) (Cert.KernelIdeal.Proto.run_main m g)

/-- The reference has no counter at all. -/
theorem no_counters (s : GSem Cert.ReferenceIdeal.nD Cert.ReferenceIdeal.τ Cert.ReferenceIdeal.sig → ℤ) : s = fun _ => 0 :=
  funext fun g => match g with
    | (_, .reg s) => s.elim0
    | (_, .dma s) => s.elim0

/-- And so does the reference. -/
theorem frame_reference : Cert.quiescent_ReferenceIdeal (hReferenceIdeal := Cert.ReferenceIdeal.Gen.facts) := fun m g _ =>
  (θ_run _ _ _).mono (fun r h => ⟨fun c => ⟨(h c).2.1, (h c).2.2⟩, no_counters _⟩) (Cert.ReferenceIdeal.Value.run m g)

/-- Every device ends with its block of the reference's result. -/
theorem same_result : Cert.algebraic_KernelIdeal_ReferenceIdeal (hKernelIdeal := Cert.KernelIdeal.Gen.facts) (hReferenceIdeal := Cert.ReferenceIdeal.Gen.facts) :=
  fun m g m' g' _ hb => ⟨_,
    (θ_run _ _ _).mono (fun _ h c => ⟨((h.1 c).2).trans (Cert.Algebra.block_eq hb c), (h.1 c).1⟩) (Cert.KernelIdeal.Proto.run_main m g),
    (θ_run _ _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, same_result⟩

end Cert.Proof

end
